-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 512, 8, 64]⟩ ⟨4, ![8, 1024, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 512, 8, 64]⟩ ⟨4, ![8, 1024, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x512x8x64 : S_.BroadcastsInDim S8x512x8x64 (![] : Fin 0 → Fin S8x512x8x64.rank)
  reducesTo_S8x512x8x64_S_d0_1_2_3 : S8x512x8x64.ReducesTo [0, 1, 2, 3] S_

variable [Facts]

def fn {F : FTy → Type} [FloatOps F] (main_arg0 : FVec F S8x1x8x64 .bf16) (main_arg1 : FVec F S8x512x8x64 .bf16) (main_arg2 : FVec F S8x512x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x512x8x64 .bf16 := Host.absf main_arg1
  let main_cst_0 : FVec F S_ .bf16 := constant S_ .bf16 0x7F80#16
  let main_v5 : FVec F S8x512x8x64 .bf16 := broadcastInDim S8x512x8x64 ![] bcast_S_S8x512x8x64 main_cst_0
  let main_v6 : IVec S8x512x8x64 1 := cmpf .olt main_v4 main_v5
  let main_c_1 : IVec S_ 1 := constantI S_ 1 1#1
  let main_v7 : IVec S_ 1 := (fun x v => Host.reduce IntOp.andi x v reducesTo_S8x512x8x64_S_d0_1_2_3 h_S_) main_v6 main_c_1
  let main_v8 : IVec S_ 1 := andi main_v3 main_v7
  main_v8
-- ==== Pre_finite_scores_ReferenceIdeal.lean ====
abbrev S8x1x8x64 : Shape := ⟨4, ![8, 1, 8, 64]⟩
abbrev S8x1024x8x64 : Shape := ⟨4, ![8, 1024, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x1024x8x64 : S_.BroadcastsInDim S8x1024x8x64 (![] : Fin 0 → Fin S8x1024x8x64.rank)
  reducesTo_S8x1024x8x64_S_d0_1_2_3 : S8x1024x8x64.ReducesTo [0, 1, 2, 3] S_

variable [Facts]

def fn {F : FTy → Type} [FloatOps F] (main_arg0 : FVec F S8x1x8x64 .bf16) (main_arg1 : FVec F S8x1024x8x64 .bf16) (main_arg2 : FVec F S8x1024x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x1024x8x64 .bf16 := Host.absf main_arg1
  let main_cst_0 : FVec F S_ .bf16 := constant S_ .bf16 0x7F80#16
  let main_v5 : FVec F S8x1024x8x64 .bf16 := broadcastInDim S8x1024x8x64 ![] bcast_S_S8x1024x8x64 main_cst_0
  let main_v6 : IVec S8x1024x8x64 1 := cmpf .olt main_v4 main_v5
  let main_c_1 : IVec S_ 1 := constantI S_ 1 1#1
  let main_v7 : IVec S_ 1 := (fun x v => Host.reduce IntOp.andi x v reducesTo_S8x1024x8x64_S_d0_1_2_3 h_S_) main_v6 main_c_1
  let main_v8 : IVec S_ 1 := andi main_v3 main_v7
  main_v8
-- ==== Kernel.lean ====
abbrev S8x1x8x64 : Shape := ⟨4, ![8, 1, 8, 64]⟩
abbrev S8x512x8x64 : Shape := ⟨4, ![8, 512, 8, 64]⟩
abbrev S8x8x128 : Shape := ⟨3, ![8, 8, 128]⟩
abbrev S_ : Shape := ⟨0, ![]⟩
abbrev S8x8 : Shape := ⟨2, ![8, 8]⟩
abbrev S8x8x64 : Shape := ⟨3, ![8, 8, 64]⟩
abbrev S8x4096x64 : Shape := ⟨3, ![8, 4096, 64]⟩
abbrev S8x512x512 : Shape := ⟨3, ![8, 512, 512]⟩
abbrev S8x4096x8 : Shape := ⟨3, ![8, 4096, 8]⟩
abbrev S8x512x8x8 : Shape := ⟨4, ![8, 512, 8, 8]⟩
abbrev S1x1x8x8 : Shape := ⟨4, ![1, 1, 8, 8]⟩
abbrev S8x512x8 : Shape := ⟨3, ![8, 512, 8]⟩
abbrev S8x1x8 : Shape := ⟨3, ![8, 1, 8]⟩
abbrev S8x8x512 : Shape := ⟨3, ![8, 8, 512]⟩
abbrev S8x8x8x64 : Shape := ⟨4, ![8, 8, 8, 64]⟩
abbrev S1x8x8x1 : Shape := ⟨4, ![1, 8, 8, 1]⟩
abbrev S8x8x1 : Shape := ⟨3, ![8, 8, 1]⟩

abbrev nBuf : Space → Nat
  | .hbm => 4
  | .vmem => 6
  | .smem => 0
  | _ => 0

abbrev bufTy : (tb : Table) → Fin (tcTables nBuf tb) → BufTy
  | .hbm, ⟨0, _⟩ => ⟨S8x1x8x64, .bf16⟩
  | .hbm, ⟨1, _⟩ => ⟨S8x512x8x64, .bf16⟩
  | .hbm, ⟨2, _⟩ => ⟨S8x512x8x64, .bf16⟩
  | .hbm, ⟨3, _⟩ => ⟨S8x1x8x64, .f32⟩
  | .local _ .vmem, ⟨0, _⟩ => ⟨S8x1x8x64, .bf16⟩
  | .local _ .vmem, ⟨1, _⟩ => ⟨S8x512x8x64, .bf16⟩
  | .local _ .vmem, ⟨2, _⟩ => ⟨S8x512x8x64, .bf16⟩
  | .local _ .vmem, ⟨3, _⟩ => ⟨S8x1x8x64, .f32⟩
  | .local _ .vmem, ⟨4, _⟩ => ⟨S8x8x128, .f32⟩
  | .local _ .vmem, ⟨5, _⟩ => ⟨S8x8x128, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_33 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_32 : BitVec 32 := 16#32
  let v65 : BitVec 32 := Scalar.muli v9 c16_i32_32
  let v66 : BitVec 32 := Scalar.addi c0_i32_33 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v67 : BitVec 32 := Scalar.muli v5 c4_i32_34
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v69 : BitVec 32 := Scalar.muli v8 c1_i32_35
  let v70 : BitVec 32 := Scalar.addi v68 v69
  v70.toNat
abbrev stage0_0 : Fin 1 → Memref sig .tc .vmem S8x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x64 : Shape := ⟨4, ![8, 1, 8, 64]⟩
abbrev S8x1024x8x64 : Shape := ⟨4, ![8, 1024, 8, 64]⟩
abbrev S8x8x1x1024 : Shape := ⟨4, ![8, 8, 1, 1024]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S8x1024x8x64, .bf16⟩
  | .hbm, ⟨2, _⟩ => ⟨S8x1024x8x64, .bf16⟩
  | .hbm, ⟨3, _⟩ => ⟨S8x1x8x64, .f32⟩
  | .hbm, ⟨4, _⟩ => ⟨S8x1024x8x64, .f32⟩
  | .hbm, ⟨5, _⟩ => ⟨S8x1024x8x64, .f32⟩
  | .hbm, ⟨6, _⟩ => ⟨S8x8x1x1024, .f32⟩
  | .hbm, ⟨7, _⟩ => ⟨S_, .f32⟩
  | .hbm, ⟨8, _⟩ => ⟨S8x8x1x1024, .f32⟩
  | .hbm, ⟨9, _⟩ => ⟨S8x8x1x1024, .f32⟩
  | .hbm, ⟨10, _⟩ => ⟨S_, .f32⟩
  | .hbm, ⟨11, _⟩ => ⟨S8x8x1, .f32⟩
  | .hbm, ⟨12, _⟩ => ⟨S8x8x1x1, .f32⟩
  | .hbm, ⟨13, _⟩ => ⟨S8x8x1x1024, .f32⟩
  | .hbm, ⟨14, _⟩ => ⟨S8x8x1x1024, .f32⟩
  | .hbm, ⟨15, _⟩ => ⟨S8x8x1x1024, .f32⟩
  | .hbm, ⟨16, _⟩ => ⟨S_, .f32⟩
  | .hbm, ⟨17, _⟩ => ⟨S8x8x1, .f32⟩
  | .hbm, ⟨18, _⟩ => ⟨S8x8x1x1, .f32⟩
  | .hbm, ⟨19, _⟩ => ⟨S8x8x1x1024, .f32⟩
  | .hbm, ⟨20, _⟩ => ⟨S8x8x1x1024, .f32⟩
  | .hbm, ⟨21, _⟩ => ⟨S8x8x64x1, .f32⟩
  | .hbm, ⟨22, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/-
# The exchange between the two halves of the mesh: who signals whom, and what each landing hands over

The mesh is x = 2, y = 4, z = 4; device `c` is at (c / 16, c / 4 % 4, c % 4). A device talks to one other device only, the one
at the other x and the same y and z (`partner`). Three semaphores take part, one of each on every device, and each is used once:

* semaphore 0, the barrier: the partner adds 1, and so says that its landing buffer may be written;
* semaphore 1, the send semaphore: the device's own copy adds the copy's credit once its send buffer has been read;
* semaphore 2, the receive semaphore: the partner's copy adds the same credit once it has landed here.

What a landing hands over is stated with its contents: three parts of the landing buffer (columns 0 to 63, column 64 and
column 65) hold the partner's unnormalised output, running maximum and running sum. Nothing is said of the other columns: the
kernel sends along whatever its send buffer held there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Pipeline.Launch
public import Idealize.ShloMosaic.Lib.Pipeline.Kit
public import Idealize.ShloMosaic.Lib.Tactic

@[expose] public section

noncomputable section

namespace Cert.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the rounds' ghost state: the staging pipeline's and the exchange's. -/
abbrev Ghost : Type := UR sig nD τ × UR sig nD τ

local notation "𝕄" => MT nD τ sig Unit (Elt F) ℕ Ghost ℕ

/-- The staging's part of the ghost state, -/
abbrev EPipe : Emb (UR sig nD τ) (MT nD τ sig Unit (Elt F) ℕ Ghost ℕ) := embL
/-- and the exchange's. -/
abbrev EX : Emb (UR sig nD τ) (MT nD τ sig Unit (Elt F) ℕ Ghost ℕ) := embR

variable (m : (ℓ : Loc nD τ sig) → Buf (Elt F) ℓ)

/-! ## The partner -/

/-- The device at the other x and the same y and z. -/
def partner (c : Dev nD) : Dev nD := ⟨(c.val + 16) % 32, Nat.mod_lt _ (by decide)⟩

/-- The partner's partner is the device itself. -/
theorem partner_partner (c : Dev nD) : partner (partner c) = c := by revert c; decide +kernel

/-- The exchange of the two halves, as a permutation of the devices. -/
def halves : Dev nD ≃ Dev nD := ⟨partner, partner, partner_partner, partner_partner⟩

/-- The device that the kernel computes for its signal is the partner, -/
theorem signal_to_partner (c : Dev nD) : (⟨k0_dev1 c, k0_dev1_lt c⟩ : Dev nD) = partner c :=
  Fin.ext ((k0_dev1_eq c).trans (by revert c; decide +kernel))
/-- and so is the one it computes for its copy. -/
theorem copy_to_partner (c : Dev nD) : (⟨k0_dev2 c, k0_dev2_lt c⟩ : Dev nD) = partner c :=
  Fin.ext ((k0_dev2_eq c).trans (by revert c; decide +kernel))

/-! ## The semaphores and the two exchange buffers -/

/-- The three semaphores of the exchange, by number. -/
abbrev semOf : Fin 3 → SemLoc sig := fun
  | 0 => .reg (SemArray.scalar (sig.barrier 0 rfl) : Sems sig S_).sem
  | 1 => .dma (cc0_scratch2 : DmaSems sig S_).sem
  | 2 => .dma (cc0_scratch3 : DmaSems sig S_).sem

/-- Semaphore `k` of device `c`. -/
abbrev cell (k : Fin 3) (c : Dev nD) : GSem nD τ sig := ((c : Thread nD τ), semOf k)

/-- The three semaphores are different. -/
theorem semOf_injective : Function.Injective semOf := by decide

/-- Two of them are the same just when number and device are. -/
theorem cell_eq_iff {k k' : Fin 3} {c c' : Dev nD} : Iff (cell k c = cell k' c') (k = k' ∧ c = c') := by
  constructor
  · intro h
    exact ⟨semOf_injective (congrArg Prod.snd h), congrArg (fun g : GSem nD τ sig => g.1.1) h⟩
  · rintro ⟨rfl, rfl⟩; rfl

/-- The buffer that a device packs its partial result into, -/
abbrev sendM : Memref sig .tc .vmem S8x8x128 .f32 := Memref.whole cc0_scratch0
/-- and the one that its partner's lands in. -/
abbrev landM : Memref sig .tc .vmem S8x8x128 .f32 := Memref.whole cc0_scratch1

/-- The credit of one copy. -/
abbrev credit : ℕ := (landM : Memref sig .tc .vmem S8x8x128 .f32).view.dmaCredit
/-- It is positive. -/
theorem credit_pos : 0 < credit := View.dmaCredit_pos _ (by decide)

/-- Device `c`'s send buffer at contents `f`. -/
def sendAt (c : Dev nD) (f : Buf (Elt F) ((c : Thread nD τ).loc cc0_scratch0)) : sProp 𝕄 :=
  (sendM : Memref sig .tc .vmem S8x8x128 .f32).view.loc (c : Thread nD τ) ↦[(sendM : Memref sig .tc .vmem S8x8x128 .f32).view.set]{fullShare} f
/-- Device `c`'s landing buffer at contents `f`. -/
def landAt (c : Dev nD) (f : Buf (Elt F) ((c : Thread nD τ).loc cc0_scratch1)) : sProp 𝕄 :=
  (landM : Memref sig .tc .vmem S8x8x128 .f32).view.loc (c : Thread nD τ) ↦[(landM : Memref sig .tc .vmem S8x8x128 .f32).view.set]{fullShare} f

omit [FloatOps F] in
/-- A send buffer can be put into an invariant, -/
instance sendAt_storable (c : Dev nD) (f) : BI.Storable (upEmb : UEmb _ 𝕄) (sendAt (F := F) c f) := by unfold sendAt; infer_instance
omit [FloatOps F] in
/-- and so can a landing buffer. -/
instance landAt_storable (c : Dev nD) (f) : BI.Storable (upEmb : UEmb _ 𝕄) (landAt (F := F) c f) := by unfold landAt; infer_instance
omit [FloatOps F] in
/-- A send buffer at `f` is the whole scratch buffer at `f`, -/
theorem sendAt_eq (c : Dev nD) (f : Buf (Elt F) ((c : Thread nD τ).loc cc0_scratch0)) :
    sendAt c f = (((c : Thread nD τ).loc cc0_scratch0) ↦{fullShare} f : sProp 𝕄) := by unfold sendAt; rw [View.set_whole]
omit [FloatOps F] in
/-- and so is a landing buffer. -/
theorem landAt_eq (c : Dev nD) (f : Buf (Elt F) ((c : Thread nD τ).loc cc0_scratch1)) :
    landAt c f = (((c : Thread nD τ).loc cc0_scratch1) ↦{fullShare} f : sProp 𝕄) := by unfold landAt; rw [View.set_whole]

/-! ## What a device computes -/

/-- Device `c`'s copy of the queries, as the kernel finds it, -/
def qOf (c : Dev nD) : Vec F S8x1x8x64 .bf16 := (win0_0.blk (0 : Fin 1)).view.read (Elt F) (m ((c : Thread nD τ).loc main_arg0))
/-- its block of the keys, -/
def kOf (c : Dev nD) : Vec F S8x512x8x64 .bf16 := (win0_1.blk (0 : Fin 1)).view.read (Elt F) (m ((c : Thread nD τ).loc main_arg1))
/-- and its block of the values. -/
def vOf (c : Dev nD) : Vec F S8x512x8x64 .bf16 := (win0_2.blk (0 : Fin 1)).view.read (Elt F) (m ((c : Thread nD τ).loc main_arg2))

/-- The unnormalised output of the device's own 512 rows, -/
def partOut (c : Dev nD) : FVec F S8x8x64 .f32 := k0_pay8 k0_pay2 (k0_pay3 (qOf m c)) (k0_pay4 (kOf m c)) (vOf m c)
/-- the maximum of their scores, -/
def partMax (c : Dev nD) : FVec F S8x8x1 .f32 := k0_pay9 k0_pay2 (k0_pay3 (qOf m c)) (k0_pay4 (kOf m c))
/-- and the sum of their weights. -/
def partSum (c : Dev nD) : FVec F S8x8x1 .f32 := k0_pay10 k0_pay2 (k0_pay3 (qOf m c)) (k0_pay4 (kOf m c))

/-- The result on device `c`: its own part and its partner's, merged. -/
def merged (c : Dev nD) : FVec F S8x1x8x64 .f32 :=
  k0_pay1 (partOut m c) (partMax m c) (partSum m c) (partOut m (partner c)) (partMax m (partner c)) (partSum m (partner c))

/-- Columns 0 to 63 of an exchange buffer, -/
abbrev rOut : Rect S8x8x128 := Rect.unit (s := S8x8x128) ![0, 0, 0] S8x8x64.size inb_S8x8x128_S8x8x64_0_0_0
/-- its column 64, -/
abbrev rMax : Rect S8x8x128 := Rect.unit (s := S8x8x128) ![0, 0, 64] S8x8x1.size inb_S8x8x128_S8x8x1_0_0_64
/-- and its column 65. -/
abbrev rSum : Rect S8x8x128 := Rect.unit (s := S8x8x128) ![0, 0, 65] S8x8x1.size inb_S8x8x128_S8x8x1_0_0_65

/-- The contents of an exchange buffer. -/
abbrev Packed (F : FTy → Type) : Type := S8x8x128.Idx → Elt F .f32

/-- A packed buffer carries the partial result of device `c`. -/
def Carries (c : Dev nD) (f : Packed F) : Prop :=
  (landM : Memref sig .tc .vmem S8x8x128 .f32).view.readAt (Elt F) rOut.toLoadRect f = partOut m c
  ∧ (landM : Memref sig .tc .vmem S8x8x128 .f32).view.readAt (Elt F) rMax.toLoadRect f = partMax m c
  ∧ (landM : Memref sig .tc .vmem S8x8x128 .f32).view.readAt (Elt F) rSum.toLoadRect f = partSum m c

/-! ## The schedule -/

/-- What the landing on semaphore `k` of device `c` hands to `c`. -/
def handed : Fin 3 → Dev nD → sProp 𝕄
  | 0, c => iprop((∃ f, landAt (partner c) f) ∗ reached EX (cell 2 (partner c)) 0)
  | 1, c => iprop(∃ f, sendAt c f)
  | 2, c => iprop(∃ f, ⌜Carries m (partner c) f⌝ ∗ landAt c f)

/-- The barrier hands over the partner's landing buffer, and that its receive semaphore has reached round 0; -/
theorem handed_barrier (c : Dev nD) : handed (F := F) m 0 c = iprop((∃ f, landAt (partner c) f) ∗ reached EX (cell 2 (partner c)) 0) := rfl
/-- the send semaphore hands back the send buffer; -/
theorem handed_send (c : Dev nD) : handed (F := F) m 1 c = iprop(∃ f, sendAt c f) := rfl
/-- the receive semaphore hands back the landing buffer, carrying the partner's partial result. -/
theorem handed_recv (c : Dev nD) : handed (F := F) m 2 c = iprop(∃ f, ⌜Carries m (partner c) f⌝ ∗ landAt c f) := rfl

/-- How much it adds. -/
def amountOf : Fin 3 → ℕ
  | 0 => 1
  | _ => credit

/-- Which semaphore of the exchange a cell is, if any. -/
def numberOf (g : GSem nD τ sig) : Option (Fin 3) :=
  if g.1.2 = .tc then (if g.2 = semOf 0 then some 0 else if g.2 = semOf 1 then some 1 else if g.2 = semOf 2 then some 2 else none) else none

/-- Semaphore `k` of any device has number `k`. -/
theorem numberOf_cell (k : Fin 3) (c : Dev nD) : numberOf (cell k c) = some k := by
  unfold numberOf
  rw [if_pos rfl]
  show (if semOf k = semOf 0 then some 0 else if semOf k = semOf 1 then some 1 else if semOf k = semOf 2 then some 2 else none) = some k
  revert k; decide

/-- Every semaphore of the exchange is paid once, in round 0, by one landing. -/
def plan : Rounds.Schedule (GSem nD τ sig) Unit 𝕄 where
  duties g r := if r = 0 ∧ (numberOf g).isSome then {()} else ∅
  unitless _ := False
  amount g _ _ := ((numberOf g).map amountOf).getD 1
  payload g _ _ := match numberOf g with
    | some k => handed m k g.1.1
    | none => iprop(emp)
  amount_pos g _ _ _ := by
    cases numberOf g with
    | none => exact Nat.one_pos
    | some k => match k with
      | 0 => exact Nat.one_pos
      | 1 => exact credit_pos
      | 2 => exact credit_pos

/-- What a landing hands over can be put into an invariant, -/
instance handed_storable (k : Fin 3) (c : Dev nD) : BI.Storable (upEmb : UEmb _ 𝕄) (handed (F := F) m k c) := by
  match k with
  | 0 => unfold handed; infer_instance
  | 1 => unfold handed; infer_instance
  | 2 => unfold handed; infer_instance

/-- and so can everything that the schedule hands over. -/
instance plan_storable (g : GSem nD τ sig) (r : ℕ) (d : Unit) : BI.Storable (upEmb : UEmb _ 𝕄) ((plan (F := F) m).payload g r d) := by
  show BI.Storable upEmb (match numberOf g with | some k => handed m k g.1.1 | none => iprop(emp))
  split <;> infer_instance

section Plan
variable (k : Fin 3) (c : Dev nD)

/-- In round 0 each semaphore of the exchange has one landing, -/
theorem plan_duties : (plan (F := F) m).duties (cell k c) 0 = {()} := by
  dsimp only [plan]; exact if_pos ⟨rfl, by rw [numberOf_cell]; rfl⟩
/-- which is the one there can be, -/
theorem plan_mem : () ∈ (plan (F := F) m).duties (cell k c) 0 := by rw [plan_duties]; exact Finset.mem_singleton_self _
/-- and no semaphore has any in a later round. -/
theorem plan_done (g : GSem nD τ sig) : ∀ r, 1 ≤ r → (plan (F := F) m).duties g r = ∅ :=
  fun r hr => by dsimp only [plan]; exact if_neg fun h => by omega
/-- The landing adds `amountOf k`, -/
theorem plan_amount (u : Unit) : (plan (F := F) m).amount (cell k c) 0 u = amountOf k := by
  dsimp only [plan]; rw [numberOf_cell]; rfl
/-- which is all that the round adds, -/
theorem plan_expect : (plan (F := F) m).expect (cell k c) 0 = amountOf k := by
  unfold Schedule.expect Schedule.amountOf; rw [plan_duties, Finset.sum_singleton, plan_amount]
/-- and hands over `handed m k c`, -/
theorem plan_payload (u : Unit) : (plan (F := F) m).payload (cell k c) 0 u = handed m k c := by
  dsimp only [plan]; rw [numberOf_cell]
/-- which is all that the round hands over. -/
theorem plan_rest : bigSep ((plan (F := F) m).duties (cell k c) 0 \ ∅) (fun u => (plan (F := F) m).payload (cell k c) 0 u) = handed m k c := by
  rw [Finset.sdiff_empty, plan_duties, bigSep_singleton, plan_payload]

end Plan

/-! ## What a device owes, and the order of the waits -/

/-- Device `c` owes its partner's receive semaphore the credit of its copy, -/
abbrev owedCopy (c : Dev nD) : CellTallies nD τ sig Unit := tallyAt (cell 2 (partner c)) () credit
/-- and, at the start, its partner's barrier one unit besides. -/
def owedStart (c : Dev nD) : CellTallies nD τ sig Unit := owedCopy c + tallyAt (cell 0 (partner c)) () 1

/-- Every semaphore of a TensorCore has a level, -/
def levelled (g : GSem nD τ sig) : Finset Unit := if g.1.2 = .tc then {()} else ∅
/-- which is 1 for the barriers, 2 for the receive semaphores and 0 for all others. -/
def level (g : GSem nD τ sig) (_ : Unit) : ℕ := if g.2 = semOf 0 then 1 else if g.2 = semOf 2 then 2 else 0

/-- No semaphore of another core has a level. -/
theorem levelled_none (g : GSem nD τ sig) (h : g.1.2 ≠ .tc) : levelled g = ∅ := if_neg h
/-- Every one of a TensorCore has. -/
theorem mem_levelled (c : Dev nD) (s : SemLoc sig) (u : Unit) : u ∈ levelled ((c : Thread nD τ), s) := by
  unfold levelled; rw [if_pos rfl]; exact Finset.mem_singleton_self _

/-- A barrier has level 1, -/
theorem level_bar (c : Dev nD) (u : Unit) : level (cell 0 c) u = 1 := if_pos rfl
/-- and a receive semaphore level 2. -/
theorem level_recv (c : Dev nD) (u : Unit) : level (cell 2 c) u = 2 := (if_neg (show ¬ semOf 2 = semOf 0 by decide)).trans (if_pos rfl)

/-- The copy is owed to the partner's receive semaphore only, -/
theorem owedCopy_pos {c : Dev nD} {g : GSem nD τ sig} {u : Unit} (h : 0 < owedCopy c g u) : g = cell 2 (partner c) := by
  by_contra hn
  rw [tallyAt_apply, if_neg fun h' => hn h'.1] at h
  exact Nat.lt_irrefl 0 h

/-- and what is owed at the start to that and the partner's barrier only. -/
theorem owedStart_pos {c : Dev nD} {g : GSem nD τ sig} {u : Unit} (h : 0 < owedStart c g u) :
    g = cell 2 (partner c) ∨ g = cell 0 (partner c) := by
  by_contra hn
  rw [not_or] at hn
  unfold owedStart at h
  rw [Pi.add_apply, Finsupp.add_apply, tallyAt_apply, tallyAt_apply, if_neg fun h' => hn.1 h'.1, if_neg fun h' => hn.2 h'.1] at h
  exact Nat.lt_irrefl 0 h

omit [FloatOps F] in
/-- A device may wait on its barrier while it owes its copy. -/
theorem may_wait_barrier (c : Dev nD) : (levAts levelled level : sProp 𝕄) ⊢ MayWait (c : Thread nD τ) (semOf 0) () (owedCopy c) :=
  MayOwe.of_cut (L := levelled) (lev := level) 1 (fun p hp => by rw [Finset.mem_singleton.mp hp]; exact mem_levelled _ _ _)
    (fun g u hg => by rw [owedCopy_pos hg]; exact mem_levelled _ _ _)
    (fun p hp => by rw [Finset.mem_singleton.mp hp]; exact le_of_eq (level_bar c ()))
    (fun g u hg => by rw [owedCopy_pos hg, level_recv]; decide)

omit [FloatOps F] in
/-- A device may wait on a staging semaphore while it owes what it owes at the start, or nothing. -/
theorem may_wait_staging (c : Dev nD) (q : DmaSem sig) (hq : SemLoc.dma q ≠ semOf 2) (O : CellTallies nD τ sig Unit)
    (hO : O = owedStart c ∨ O = 0) : (levAts levelled level : sProp 𝕄) ⊢ MayWait (c : Thread nD τ) (.dma q) () O := by
  rcases hO with rfl | rfl
  · refine MayOwe.of_cut (L := levelled) (lev := level) 0 (fun p hp => by rw [Finset.mem_singleton.mp hp]; exact mem_levelled _ _ _)
      (fun g u hg => by rcases owedStart_pos hg with rfl | rfl <;> exact mem_levelled _ _ _)
      (fun p hp => by
        rw [Finset.mem_singleton.mp hp]
        exact le_of_eq ((if_neg fun h => by cases h).trans (if_neg hq)))
      (fun g u hg => by
        rcases owedStart_pos hg with rfl | rfl
        · rw [level_recv]; decide
        · rw [level_bar]; decide)
  · rw [MayWait_zero]; iintro -; iempintro

end Cert.Flash

end
-- ==== Proof.Packing.lean ====
/-
# Packing a partial result into the send buffer and reading it back from the landing buffer

The kernel stores its partial output in columns 0 to 63 of the send buffer, its maximum in column 64 and its sum in column 65,
in this order. The three places are disjoint, so the buffer then carries all three, whatever it held before; a copy of the whole
buffer carries them to the landing buffer.
-/
module

public import proofs.«01_k».proof.Proof.Protocol

@[expose] public section

noncomputable section

namespace Cert.Flash

open Cert.KernelIdeal Cert.KernelIdeal.Gen
open Idealize.ShloMosaic Idealize.ShloMosaic.TcCoe

variable {F : FTy → Type} [FloatOps F]
variable (m : (ℓ : Loc nD τ sig) → Buf (Elt F) ℓ)

/-- A load of one rectangle does not see a store to another that shares no element with it. -/
theorem load_after_other {r r' : Rect S8x8x128} (h : ∀ x y, r.emb x ≠ r'.emb y) (f : Packed F) (w : r'.shape.Idx → Elt F .f32) :
    (sendM : Memref sig .tc .vmem S8x8x128 .f32).view.readAt (Elt F) r.toLoadRect
        (((sendM : Memref sig .tc .vmem S8x8x128 .f32).access r' : View sig .tc _ _ _).write (Elt F) f w Finset.univ)
      = (sendM : Memref sig .tc .vmem S8x8x128 .f32).view.readAt (Elt F) r.toLoadRect f :=
  funext fun x => View.read_slice_write_of_not_mem (v := (sendM : Memref sig .tc .vmem S8x8x128 .f32).view) r' f w Finset.univ fun hm => by
    obtain ⟨y, -, hy⟩ := Finset.mem_map.mp hm
    exact h x y hy.symm

/-- A load of the rectangle just stored to reads what was stored. -/
theorem load_after_same (r : Rect S8x8x128) (f : Packed F) (w : r.shape.Idx → Elt F .f32) :
    (sendM : Memref sig .tc .vmem S8x8x128 .f32).view.readAt (Elt F) r.toLoadRect
        (((sendM : Memref sig .tc .vmem S8x8x128 .f32).access r : View sig .tc _ _ _).write (Elt F) f w Finset.univ) = w :=
  funext fun x => View.read_slice_write_emb (v := (sendM : Memref sig .tc .vmem S8x8x128 .f32).view) r f w (Finset.mem_univ x)

/-- Columns 0 to 63 do not meet column 64, -/
theorem out_apart_max : ∀ x y, rOut.emb x ≠ rMax.emb y := fun x y h => by
  have h2 : 0 + 1 * (x 2).val = 64 + 1 * (y 2).val := congrArg (fun i : S8x8x128.Idx => (i 2).val) h
  have hx : (x 2).val < 64 := (x 2).isLt
  omega
/-- nor column 65, -/
theorem out_apart_sum : ∀ x y, rOut.emb x ≠ rSum.emb y := fun x y h => by
  have h2 : 0 + 1 * (x 2).val = 65 + 1 * (y 2).val := congrArg (fun i : S8x8x128.Idx => (i 2).val) h
  have hx : (x 2).val < 64 := (x 2).isLt
  omega
/-- and column 64 is not column 65. -/
theorem max_apart_sum : ∀ x y, rMax.emb x ≠ rSum.emb y := fun x y h => by
  have h2 : 64 + 1 * (x 2).val = 65 + 1 * (y 2).val := congrArg (fun i : S8x8x128.Idx => (i 2).val) h
  have hx : (x 2).val < 1 := (x 2).isLt
  omega

/-- A reshape of an array to its own shape is the array. -/
theorem shapeCast_same {s : Shape} {α : Type} (v : s.Idx → α) (h : s.ShapeCasts s) : shapeCast s v h = v :=
  funext fun i => congrArg v (Shape.reshapeEquiv_self h i)

/-- The send buffer after the kernel's three stores, from contents `f`. -/
def packOn (c : Dev nD) (f : Packed F) : Packed F :=
  ((sendM : Memref sig .tc .vmem S8x8x128 .f32).access rSum : View sig .tc _ _ _).write (Elt F)
    (((sendM : Memref sig .tc .vmem S8x8x128 .f32).access rMax : View sig .tc _ _ _).write (Elt F)
      (((sendM : Memref sig .tc .vmem S8x8x128 .f32).access rOut : View sig .tc _ _ _).write (Elt F) f
        (k0_pay11 k0_pay2 (k0_pay3 (qOf m c)) (k0_pay4 (kOf m c)) (vOf m c)) Finset.univ)
      (k0_pay12 k0_pay2 (k0_pay3 (qOf m c)) (k0_pay4 (kOf m c))) Finset.univ)
    (k0_pay13 k0_pay2 (k0_pay3 (qOf m c)) (k0_pay4 (kOf m c))) Finset.univ

/-- Whatever the send buffer held, it then carries the device's partial result. -/
theorem packOn_carries (c : Dev nD) (f : Packed F) : Carries m c (packOn m c f) := by
  refine ⟨?_, ?_, ?_⟩
  · show (sendM : Memref sig .tc .vmem S8x8x128 .f32).view.readAt (Elt F) rOut.toLoadRect (packOn m c f) = _
    unfold packOn
    rw [load_after_other out_apart_sum, load_after_other out_apart_max, load_after_same]
    exact shapeCast_same _ _
  · show (sendM : Memref sig .tc .vmem S8x8x128 .f32).view.readAt (Elt F) rMax.toLoadRect (packOn m c f) = _
    unfold packOn
    rw [load_after_other max_apart_sum, load_after_same]
    exact shapeCast_same _ _
  · show (sendM : Memref sig .tc .vmem S8x8x128 .f32).view.readAt (Elt F) rSum.toLoadRect (packOn m c f) = _
    unfold packOn
    rw [load_after_same]
    exact shapeCast_same _ _

omit [FloatOps F] in
/-- A copy of the whole send buffer over the landing buffer leaves the send buffer's contents there. -/
theorem copied (fd fs : Packed F) :
    (landM : Memref sig .tc .vmem S8x8x128 .f32).view.write (Elt F) fd ((sendM : Memref sig .tc .vmem S8x8x128 .f32).view.read (Elt F) fs) Finset.univ = fs := by
  show (View.whole cc0_scratch1).write (Elt F) fd ((View.whole cc0_scratch0).read (Elt F) fs) Finset.univ = fs
  rw [View.read_whole]; exact View.write_whole_univ _ _ _

end Cert.Flash

end
-- ==== Proof.Body.lean ====
/-
# One device's kernel, from its start to its end

`body_runs` runs the kernel's body on device `c` through every effect in its order: the signal to the partner's barrier and the
wait on its own, the three loads, the packing of the send buffer, the copy to the partner, the two waits that end it, the three
loads of what has landed, and the store of the merged result. It starts from `bodyStart` and ends with `bodyEnd`: the result's
staging buffer at `merged m c`, nothing owed, and the three semaphores of the exchange at zero again.
-/
module

public import proofs.«01_k».proof.Proof.Packing

@[expose] public section

noncomputable section

namespace Cert.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## What a device holds -/

/-- The invariants that device `c` opens: those of its own three semaphores and of its partner's barrier and receive semaphore. -/
def shared (K : Dev nD × Fin 3 → ℕ) (c : Dev nD) : sProp 𝕄 :=
  iprop(cellInv EX (plan m) (K (c, 0)) (cell 0 c) ∗ cellInv EX (plan m) (K (c, 1)) (cell 1 c) ∗ cellInv EX (plan m) (K (c, 2)) (cell 2 c)
    ∗ cellInv EX (plan m) (K (partner c, 0)) (cell 0 (partner c)) ∗ cellInv EX (plan m) (K (partner c, 2)) (cell 2 (partner c)))

/-- What is shared can be used any number of times. -/
instance shared_persistent (K : Dev nD × Fin 3 → ℕ) (c : Dev nD) : BI.Persistent (shared m K c) := by unfold shared; infer_instance

/-- That round 0 is reached on the semaphores it pays and on its receive semaphore. -/
def atRound (c : Dev nD) : sProp 𝕄 :=
  iprop(reached EX (cell 0 (partner c)) 0 ∗ reached EX (cell 1 c) 0 ∗ reached EX (cell 2 c) 0 ∗ reached EX (cell 2 (partner c)) 0)

/-- That a round is reached can be used any number of times. -/
instance atRound_persistent (c : Dev nD) : BI.Persistent (atRound (F := F) c) := by unfold atRound; infer_instance

/-- Its positions on its own three semaphores. -/
def positions (c : Dev nD) : sProp 𝕄 := iprop(atPos EX (cell 0 c) 0 ∅ 0 ∗ atPos EX (cell 1 c) 0 ∅ 0 ∗ atPos EX (cell 2 c) 0 ∅ 0)

/-- The right to pay its partner's barrier, its own send semaphore and its partner's receive semaphore. -/
def toPay (c : Dev nD) : sProp 𝕄 := iprop(dutyTok EX (cell 0 (partner c)) 0 () ∗ dutyTok EX (cell 1 c) 0 () ∗ dutyTok EX (cell 2 (partner c)) 0 ())

/-- All of the exchange's state that device `c` starts with, but for what it will be paid. -/
def ready (K : Dev nD × Fin 3 → ℕ) (c : Dev nD) : sProp 𝕄 := iprop(shared m K c ∗ atRound c ∗ positions c ∗ toPay c)

/-- With what it will be paid on its barrier and its receive semaphore, and the levels. -/
def begun (c : Dev nD) : sProp 𝕄 :=
  iprop((∃ K, ready m K c) ∗ cred (tallyAt (cell 0 c) () 1) ∗ cred (tallyAt (cell 2 c) () credit) ∗ levAts levelled level)

/-- The two exchange buffers, at some contents. -/
def buffers (c : Dev nD) : sProp 𝕄 := iprop((∃ f, sendAt c f) ∗ ∃ f, landAt c f)

/-- What device `c` holds when the kernel's body starts: its part of the exchange and its two buffers. -/
def atEntry (c : Dev nD) : sProp 𝕄 := iprop(begun m c ∗ buffers c)
/-- At the end the exchange's semaphores are at zero. -/
def atExit (c : Dev nD) : sProp 𝕄 := iprop(buffers (F := F) c ∗ semVal (cell 0 c) 0 ∗ semVal (cell 1 c) 0 ∗ semVal (cell 2 c) 0)

/-- The proof data of the kernel's one point on device `c`: the arrays as launched; the staging buffers of Q, K and V left as they
    were and the result's at `merged m c`. -/
def flashDat (_ : Fin 1) (c : Dev nD) : Dat τ (Elt F) Unit ℕ Ghost ℕ cfg0 c where
  A w := m ((cfg0.win w).arr.view.loc (c : Thread nD τ))
  after w _ := match w with
    | ⟨0, _⟩ => qOf m c
    | ⟨1, _⟩ => kOf m c
    | ⟨2, _⟩ => vOf m c
    | ⟨3, _⟩ => merged m c
  Φ t := match t with
    | ⟨0, _⟩ => atEntry m c
    | ⟨_ + 1, _⟩ => atExit c
  q _ := fullShare
  owed t := match t with
    | ⟨0, _⟩ => owedStart c
    | ⟨_ + 1, _⟩ => 0

/-- The kernel has no loop that needs a variant. -/
abbrev noVariants : Variants := Variants.none

/-- The kernel's one point. -/
def pt : Fin cfg0.N := t0_0
/-- Every point of the grid is that one. -/
theorem eq_pt (t : Fin cfg0.N) : t = pt := fin_N0 t

/-- The queries are fetched at it, -/
theorem fetched_0 : (cfg0.win (0 : Fin 4)).fetch pt = true := rfl
/-- so are the keys, -/
theorem fetched_1 : (cfg0.win (1 : Fin 4)).fetch pt = true := rfl
/-- and so are the values. -/
theorem fetched_2 : (cfg0.win (2 : Fin 4)).fetch pt = true := rfl

/-- Buffer `b` of device `c`, at contents `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- To own the whole of a buffer at contents `X` is to hold it at `X`. -/
theorem owns_eq_held (c : Dev nD) (b : Ref sig .tc) (X : b.ty.Contents (Elt F)) :
    (owns (Ix := Unit) (Name := ℕ) (U := Ghost) (Lvl := ℕ) (c : Thread nD τ) (Memref.whole b) fullShare X : sProp 𝕄) = held c b X := by
  unfold owns; simp only [Memref.view_whole, View.read_whole, View.set_whole]

/-- What a device's signal to its partner's barrier hands over: its own landing buffer, at whatever contents. -/
theorem lend_landing (c : Dev nD) (f : Buf (Elt F) ((c : Thread nD τ).loc cc0_scratch1)) :
    iprop(landAt c f ∗ reached EX (cell 2 c) 0) ⊢ (plan (F := F) m).payload (cell 0 (partner c)) 0 () := by
  rw [plan_payload, handed_barrier, partner_partner]
  iintro ⟨Hl, HR⟩
  isplitl [Hl]
  · iexists f; iexact Hl
  iexact HR

/-- The send buffer after the three stores, as a send buffer at `packOn m c f`. -/
theorem packed_to_send (c : Dev nD) (f : Packed F) :
    ((((sendM : Memref sig .tc .vmem S8x8x128 .f32).access rSum : View sig .tc _ _ _).loc (c : Thread nD τ)) ↦{fullShare}
        (((sendM : Memref sig .tc .vmem S8x8x128 .f32).access rSum : View sig .tc _ _ _).write (Elt F)
          (((sendM : Memref sig .tc .vmem S8x8x128 .f32).access rMax : View sig .tc _ _ _).write (Elt F)
            (((sendM : Memref sig .tc .vmem S8x8x128 .f32).access rOut : View sig .tc _ _ _).write (Elt F) f
              (k0_pay11 k0_pay2 (k0_pay3 (qOf m c)) (k0_pay4 (kOf m c)) (vOf m c)) Finset.univ)
            (k0_pay12 k0_pay2 (k0_pay3 (qOf m c)) (k0_pay4 (kOf m c))) Finset.univ)
          (k0_pay13 k0_pay2 (k0_pay3 (qOf m c)) (k0_pay4 (kOf m c))) Finset.univ) : sProp 𝕄)
      ⊢ sendAt c (packOn m c f) := Entails.of_eq (sendAt_eq c (packOn m c f)).symm

/-! ## The copy -/

/-- The copy's source, read, is what lands on the send semaphore. -/
theorem send_released (c : Dev nD) (f : Packed F) :
    ((sendM : Memref sig .tc .vmem S8x8x128 .f32).view.loc (c : Thread nD τ) ↦[(sendM : Memref sig .tc .vmem S8x8x128 .f32).view.set]{fullShare} f : sProp 𝕄)
      ⊢ (plan (F := F) m).payload (cell 1 c) 0 () := by
  rw [plan_payload, handed_send]
  show sendAt c f ⊢ _
  iintro H; iexists f; iexact H

/-- A landing buffer that carries the device's partial result is what lands on the partner's receive semaphore. -/
theorem land_carrying (c : Dev nD) (f : Packed F) (h : Carries m c f) :
    landAt (partner c) f ⊢ (iprop(∃ f, ⌜Carries m c f⌝ ∗ landAt (partner c) f) : sProp 𝕄) := by
  iintro H; iexists f
  isplitr
  · ipureintro; exact h
  iexact H

/-- The copy of the send buffer, once it carries the device's partial result, to the partner's landing buffer. -/
theorem copy_runs (K : Dev nD × Fin 3 → ℕ) (c n : Dev nD) (hn : n = partner c)
    {hsc : (landM : Memref sig (Dev.tc n : Thread nD τ).2.kind .vmem S8x8x128 .f32).view.ref.isScScratch = false}
    {hsrc : (sendM : Memref sig .tc .vmem S8x8x128 .f32).view.WordExact} {hdst : (landM : Memref sig .tc .vmem S8x8x128 .f32).view.WordExact}
    {hsem : DmaTarget.Typed .vmem (semOf 2) (.remote (Dev.tc n : Thread nD τ) (landM : Memref sig .tc .vmem S8x8x128 .f32) (semOf 1) hsc)}
    {α : Type} {Q : α → sProp 𝕄} {k : PUnit → Prog (TpuEff nD τ sig (Elt F) Λ₀ .tc) α}
    (fs : Packed F) (hfs : Carries m c fs) (fd : Packed F) (W : Waits sig Unit) :
    iprop(cellInv EX (plan m) (K (c, 1)) (cell 1 c) ∗ cellInv EX (plan m) (K (partner c, 2)) (cell 2 (partner c))
        ∗ sendAt c fs ∗ landAt (partner c) fd ∗ owes (c : Thread nD τ) (owedCopy c) W
        ∗ dutyTok EX (cell 1 c) 0 () ∗ reached EX (cell 1 c) 0 ∗ dutyTok EX (cell 2 (partner c)) 0 () ∗ reached EX (cell 2 (partner c)) 0)
      ⊢ iprop(((cred (tallyAt (cell 1 c) () credit) ∗ owes (c : Thread nD τ) 0 W) -∗ wp frame (wpE (defs₀ (F := F)) noVariants (c : Thread nD τ) none) Set.univ (k ⟨⟩) Q)
          -∗ wp frame (wpE (defs₀ (F := F)) noVariants (c : Thread nD τ) none) Set.univ
              (.op (.enqueueDma sendM (.remote (Dev.tc n : Thread nD τ) landM (semOf 1) hsc) (semOf 2) hsrc hdst hsem) k) Q) := by
  subst hn
  have h1 : (plan (F := F) m).amount (cell 1 c) 0 () = credit := plan_amount m 1 c ()
  have h2 : (plan (F := F) m).amount (cell 2 (partner c)) 0 () = credit := plan_amount m 2 (partner c) ()
  have h3 : (landM : Memref sig .tc .vmem S8x8x128 .f32).view.amount (semOf 2) = credit := rfl
  have h4 : owedCopy c = 0 + tallyAt (cell 2 (partner c)) () credit := by rw [zero_add]
  unfold sendAt landAt
  refine Rounds.wp_send_pointsTo noVariants EX (plan m) (c : Thread nD τ) none (c' := (Dev.tc (partner c) : Thread nD τ)) (src := sendM) (dst := landM)
    (sS := semOf 1) (sem := semOf 2) (q := fullShare) (fs := fs) (Q := Q) (κ₁ := K (c, 1)) (κ₂ := K (partner c, 2))
    (r₁ := 0) (r₂ := 0) (d₁ := ()) (d₂ := ()) (fd := fd) (plan_mem m 1 c) (plan_mem m 2 (partner c))
    () () credit h3 h1 h2 0 h4 (W := W)
    ?_ ?_
  · exact send_released m c fs
  · rw [plan_payload, handed_recv, partner_partner]
    refine .trans (Entails.of_eq ?_) (land_carrying m c fs hfs)
    unfold landAt
    rw [copied]

/-! ## The body -/

/-- What device `c` holds before the body, with the names of the invariants fixed at `K`: the exchange's state, what it owes, and its four staging buffers. -/
def bodyStart (K : Dev nD × Fin 3 → ℕ) (c : Dev nD) : sProp 𝕄 :=
  iprop((ready m K c ∗ cred (tallyAt (cell 0 c) () 1) ∗ cred (tallyAt (cell 2 c) () credit) ∗ levAts levelled level ∗ buffers c)
    ∗ (flashDat m 0 c).owesAt () pt.castSucc
    ∗ (∃ d, held c cc0_stg0_0 ((flashDat m 0 c).before (0 : Fin 4) pt d))
    ∗ (∃ d, held c cc0_stg1_0 ((flashDat m 0 c).before (1 : Fin 4) pt d))
    ∗ (∃ d, held c cc0_stg2_0 ((flashDat m 0 c).before (2 : Fin 4) pt d))
    ∗ (∃ d, held c cc0_stg3_0 ((flashDat m 0 c).before (3 : Fin 4) pt d)))

/-- What it holds after the body: the exchange's state at exit, what it owes then, its Q, K and V as they were, and the merged result. -/
def bodyEnd (c : Dev nD) : sProp 𝕄 :=
  iprop(atExit c ∗ (flashDat m 0 c).owesAt () pt.succ ∗ held c cc0_stg0_0 (qOf m c) ∗ held c cc0_stg1_0 (kOf m c)
    ∗ held c cc0_stg2_0 (vOf m c) ∗ held c cc0_stg3_0 (merged m c))

/-- Four zero offsets are the zero offset. -/
theorem zero4 : (![0, 0, 0, 0] : Fin 4 → Nat) = fun _ => 0 := funext fun a => by fin_cases a <;> rfl

omit [FloatOps F] in
/-- A load of the whole staging buffer of Q reads its contents, -/
theorem load_q (f : S8x1x8x64.Idx → Elt F .bf16) : (Memref.whole cc0_stg0_0 : Memref sig .tc .vmem S8x1x8x64 .bf16).view.readAt (Elt F)
    (Rect.unit ![0, 0, 0, 0] ![8, 1, 8, 64] inb_S8x1x8x64_S8x1x8x64_0_0_0_0).toLoadRect f = f :=
  Memref.readAt_unit_zero (Elt F) cc0_stg0_0 zero4 inb_S8x1x8x64_S8x1x8x64_0_0_0_0 f
omit [FloatOps F] in
/-- so does one of K's, -/
theorem load_k (f : S8x512x8x64.Idx → Elt F .bf16) : (Memref.whole cc0_stg1_0 : Memref sig .tc .vmem S8x512x8x64 .bf16).view.readAt (Elt F)
    (Rect.unit ![0, 0, 0, 0] ![8, 512, 8, 64] inb_S8x512x8x64_S8x512x8x64_0_0_0_0).toLoadRect f = f :=
  Memref.readAt_unit_zero (Elt F) cc0_stg1_0 zero4 inb_S8x512x8x64_S8x512x8x64_0_0_0_0 f
omit [FloatOps F] in
/-- and one of V's. -/
theorem load_v (f : S8x512x8x64.Idx → Elt F .bf16) : (Memref.whole cc0_stg2_0 : Memref sig .tc .vmem S8x512x8x64 .bf16).view.readAt (Elt F)
    (Rect.unit ![0, 0, 0, 0] ![8, 512, 8, 64] inb_S8x512x8x64_S8x512x8x64_0_0_0_0).toLoadRect f = f :=
  Memref.readAt_unit_zero (Elt F) cc0_stg2_0 zero4 inb_S8x512x8x64_S8x512x8x64_0_0_0_0 f
omit [FloatOps F] in
/-- A store to the whole staging buffer of the result replaces its contents. -/
theorem store_result (f w : S8x1x8x64.Idx → Elt F .f32) : ((Memref.whole cc0_stg3_0 : Memref sig .tc .vmem S8x1x8x64 .f32).access
    (Rect.unit ![0, 0, 0, 0] ![8, 1, 8, 64] inb_S8x1x8x64_S8x1x8x64_0_0_0_0)).write (Elt F) f w Finset.univ = w :=
  Memref.write_access_unit_zero_univ (Elt F) cc0_stg3_0 zero4 inb_S8x1x8x64_S8x1x8x64_0_0_0_0 f w

set_option maxHeartbeats 1600000 in
/-- The kernel's body runs on device `c` from `bodyStart` and ends in `bodyEnd`. -/
theorem body_runs (K : Dev nD × Fin 3 → ℕ) (c : Dev nD) (Kt : PUnit → sProp 𝕄) :
    iprop(bodyStart m K c ∗ (bodyEnd m c -∗ Kt ⟨⟩))
      ⊢ wp frame (wpE (defs₀ (F := F)) noVariants c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            cc0_scratch2 cc0_scratch3) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyStart ready positions toPay buffers
  iintro ⟨⟨⟨⟨#Hsh, #Hat, ⟨P0, P1, P2⟩, T0, T1, T2⟩, C0, C2, #Hlev, ⟨⟨%fs, Hs⟩, ⟨%fl, Hl⟩⟩⟩, Ho, ⟨%d0, %g0, %hg0, Hq⟩, ⟨%d1, %g1, %hg1, Hk⟩, ⟨%d2, %g2, %hg2, Hv⟩, ⟨%d3, %g3, %hg3, Hr⟩⟩, Hend⟩
  have hq : g0 = qOf m c := by rw [hg0]; unfold Dat.before; rw [if_pos fetched_0]; rfl
  have hk : g1 = kOf m c := by rw [hg1]; unfold Dat.before; rw [if_pos fetched_1]; rfl
  have hv : g2 = vOf m c := by rw [hg2]; unfold Dat.before; rw [if_pos fetched_2]; rfl
  subst hq hk hv
  unfold Dat.owesAt Pipeline.owesWithin
  icases Ho with ⟨%W, %hW, HO⟩
  rw [show (flashDat m 0 c).owed pt.castSucc = owedStart c from rfl]
  simp only [signal_to_partner c]
  unfold shared atRound
  icases Hsh with ⟨#I0, #I1, #I2, #J0, #J2⟩
  icases Hat with ⟨#R0, #R1, #R2, #S2⟩
  -- the signal to the partner's barrier hands over the landing buffer
  iapply (Rounds.wp_signal noVariants EX (plan m) (c : Thread nD τ) none (dst := (partner c : Thread nD τ)) (κ := K (partner c, 0))
      (plan_mem m 0 (partner c)) ((plan_amount m 0 (partner c) ()).trans (by decide)) () (owedCopy c) rfl) $$ [HO T0 Hl]
  · isplitr; · iexact J0
    isplitl [HO]; · iexact HO
    isplitl [T0]; · iexact T0
    isplitl [Hl]
    · iapply (lend_landing m c fl)
      isplitl [Hl]; · iexact Hl
      iexact R2
    · iexact R0
  iintro HO
  -- the wait on its own barrier brings the partner's landing buffer
  iapply (Rounds.wp_wait_rest_token noVariants EX (plan m) (c : Thread nD τ) none (κ := K (c, 0))
      (wpE_semWait_eq noVariants (c : Thread nD τ) none Set.univ) (Set.mem_univ _) () (O := owedCopy c) (W := W) (R := 0) (m := 0) (T := ∅)
      (by rw [plan_expect m 0 c]; decide)) $$ [C0 HO P0]
  · isplitr; · iexact I0
    isplitl [C0]; · iexact C0
    isplitl [HO]; · iexact HO
    isplitr; · iapply (may_wait_barrier c); iexact Hlev
    iexact P0
  iintro ⟨HO, P0, -, Hpay⟩
  ihave Hp := (Entails.of_eq ((plan_rest m 0 c).trans (handed_barrier m c))) $$ Hpay
  icases Hp with ⟨⟨%fd, Hd⟩, -⟩
  -- the loads of Q, K and V
  iapply (wp_load noVariants (c : Thread nD τ) none Set.univ (m := (Memref.whole cc0_stg0_0 : Memref sig .tc .vmem S8x1x8x64 .bf16)) (Finset.subset_univ _)) $$ Hq; iintro Hq
  rw [load_q]
  iapply (wp_load noVariants (c : Thread nD τ) none Set.univ (m := (Memref.whole cc0_stg1_0 : Memref sig .tc .vmem S8x512x8x64 .bf16)) (Finset.subset_univ _)) $$ Hk; iintro Hk
  rw [load_k]
  iapply (wp_load noVariants (c : Thread nD τ) none Set.univ (m := (Memref.whole cc0_stg2_0 : Memref sig .tc .vmem S8x512x8x64 .bf16)) (Finset.subset_univ _)) $$ Hv; iintro Hv
  rw [load_v]
  -- the send buffer, packed
  ihave Hs := (Entails.of_eq (sendAt_eq c fs)) $$ Hs
  iapply (wp_load noVariants (c : Thread nD τ) none Set.univ (m := sendM) (Finset.subset_univ _)) $$ Hs; iintro Hs
  iapply (wp_store noVariants (c : Thread nD τ) none Set.univ (m := sendM) (r := rOut) (Mk := Finset.univ) (Finset.subset_univ _)) $$ Hs; iintro Hs
  iapply (wp_load noVariants (c : Thread nD τ) none Set.univ (m := sendM) (Finset.subset_univ _)) $$ Hs; iintro Hs
  iapply (wp_store noVariants (c : Thread nD τ) none Set.univ (m := sendM) (r := rMax) (Mk := Finset.univ) (Finset.subset_univ _)) $$ Hs; iintro Hs
  iapply (wp_load noVariants (c : Thread nD τ) none Set.univ (m := sendM) (Finset.subset_univ _)) $$ Hs; iintro Hs
  iapply (wp_store noVariants (c : Thread nD τ) none Set.univ (m := sendM) (r := rSum) (Mk := Finset.univ) (Finset.subset_univ _)) $$ Hs; iintro Hs
  ihave Hs := (packed_to_send m c fs) $$ Hs
  -- the copy to the partner
  iapply (copy_runs m K c _ (copy_to_partner c) (packOn m c fs) (packOn_carries m c fs) fd (insert (semOf 0, ()) W)) $$ [Hs Hd HO T1 T2]
  · isplitr; · iexact I1
    isplitr; · iexact J2
    isplitl [Hs]; · iexact Hs
    isplitl [Hd]; · iexact Hd
    isplitl [HO]; · iexact HO
    isplitl [T1]; · iexact T1
    isplitr; · iexact R1
    isplitl [T2]; · iexact T2
    iexact S2
  iintro ⟨C1, HO⟩
  iapply (Rounds.wp_wait_rest_token noVariants EX (plan m) (c : Thread nD τ) none (κ := K (c, 1))
      (wpE_waitDma2_eq noVariants (c : Thread nD τ) none Set.univ) (Set.mem_univ _) () (O := 0) (W := insert (semOf 0, ()) W) (R := 0) (m := 0) (T := ∅)
      (by rw [Nat.zero_add]; exact (plan_expect m 1 c).symm)) $$ [C1 HO P1]
  · isplitr; · iexact I1
    isplitl [C1]; · iexact C1
    isplitl [HO]; · iexact HO
    isplitr; · rw [MayWait_zero]; iempintro
    iexact P1
  iintro ⟨HO, P1, -, Hpay⟩
  ihave Hs := (Entails.of_eq ((plan_rest m 1 c).trans (handed_send m c))) $$ Hpay
  iapply (Rounds.wp_wait_rest_token noVariants EX (plan m) (c : Thread nD τ) none (κ := K (c, 2))
      (wpE_waitDma2_eq noVariants (c : Thread nD τ) none Set.univ) (Set.mem_univ _) () (O := 0)
      (W := insert (semOf 1, ()) (insert (semOf 0, ()) W)) (R := 0) (m := 0) (T := ∅)
      (by rw [Nat.zero_add]; exact (plan_expect m 2 c).symm)) $$ [C2 HO P2]
  · isplitr; · iexact I2
    isplitl [C2]; · iexact C2
    isplitl [HO]; · iexact HO
    isplitr; · rw [MayWait_zero]; iempintro
    iexact P2
  iintro ⟨HO, P2, -, Hpay⟩
  ihave Hl := (Entails.of_eq ((plan_rest m 2 c).trans (handed_recv m c))) $$ Hpay
  icases Hl with ⟨%fr, %hfr, Hl⟩
  obtain ⟨hro, hrm, hrs⟩ := hfr
  -- the three semaphores close at zero
  imod (Rounds.cell_close EX (plan m) (Set.mem_univ (K (c, 0))) (fun h => h) (R := 0 + 1) (plan_done m (cell 0 c))) $$ [P0] with Z0
  · isplitr; · iexact I0
    iexact P0
  imod (Rounds.cell_close EX (plan m) (Set.mem_univ (K (c, 1))) (fun h => h) (R := 0 + 1) (plan_done m (cell 1 c))) $$ [P1] with Z1
  · isplitr; · iexact I1
    iexact P1
  imod (Rounds.cell_close EX (plan m) (Set.mem_univ (K (c, 2))) (fun h => h) (R := 0 + 1) (plan_done m (cell 2 c))) $$ [P2] with Z2
  · isplitr; · iexact I2
    iexact P2
  -- what has landed, read in its three parts
  ihave Hl := (Entails.of_eq (landAt_eq c fr)) $$ Hl
  iapply (wp_load noVariants (c : Thread nD τ) none Set.univ (m := landM) (Finset.subset_univ _)) $$ Hl; iintro Hl
  rw [hro]
  iapply (wp_load noVariants (c : Thread nD τ) none Set.univ (m := landM) (Finset.subset_univ _)) $$ Hl; iintro Hl
  rw [hrm]
  iapply (wp_load noVariants (c : Thread nD τ) none Set.univ (m := landM) (Finset.subset_univ _)) $$ Hl; iintro Hl
  rw [hrs]
  -- the merged result, stored
  iapply (wp_load noVariants (c : Thread nD τ) none Set.univ (m := (Memref.whole cc0_stg3_0 : Memref sig .tc .vmem S8x1x8x64 .f32)) (Finset.subset_univ _)) $$ Hr; iintro Hr
  iapply (wp_store noVariants (c : Thread nD τ) none Set.univ (m := (Memref.whole cc0_stg3_0 : Memref sig .tc .vmem S8x1x8x64 .f32))
    (r := Rect.unit ![0, 0, 0, 0] ![8, 1, 8, 64] inb_S8x1x8x64_S8x1x8x64_0_0_0_0) (Mk := Finset.univ) (Finset.subset_univ _)) $$ Hr; iintro Hr
  rw [store_result, wp_ret]; imodintro
  iapply Hend
  unfold bodyEnd atExit buffers Dat.owesAt Pipeline.owesWithin
  rw [show (flashDat m 0 c).owed pt.succ = 0 from rfl]
  isplitl [Hs Hl Z0 Z1 Z2]
  · isplitl [Hs Hl]
    · isplitl [Hs]; · iexact Hs
      iexists fr; rw [landAt_eq]; iexact Hl
    isplitl [Z0]; · iexact Z0
    isplitl [Z1] <;> iassumption
  isplitl [HO]
  · iexists (insert (semOf 2, ()) (insert (semOf 1, ()) (insert (semOf 0, ()) W)))
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Hr

/-- `bodyStart` with the names of the invariants left open. -/
def bodyStart' (c : Dev nD) : sProp 𝕄 :=
  iprop(atEntry m c ∗ (flashDat m 0 c).owesAt () pt.castSucc
    ∗ (∃ d, held c cc0_stg0_0 ((flashDat m 0 c).before (0 : Fin 4) pt d))
    ∗ (∃ d, held c cc0_stg1_0 ((flashDat m 0 c).before (1 : Fin 4) pt d))
    ∗ (∃ d, held c cc0_stg2_0 ((flashDat m 0 c).before (2 : Fin 4) pt d))
    ∗ (∃ d, held c cc0_stg3_0 ((flashDat m 0 c).before (3 : Fin 4) pt d)))

set_option maxRecDepth 4000 in
/-- The kernel's body meets what the staging pipeline asks of it. -/
theorem body_obligation (c : Dev nD) : BodyObligation (flashDat (F := F) m 0 c) (defs₀ (F := F)) noVariants () Set.univ := fun t => by
  rw [eq_pt t, bigSep_W0, bigSep_W0]
  simp only [owns_eq_held]
  show bodyStart' m c ⊢ wp frame (wpE (defs₀ (F := F)) noVariants c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      cc0_scratch2 cc0_scratch3) (fun _ => bodyEnd m c)
  unfold bodyStart' atEntry begun
  iintro ⟨⟨⟨⟨%K, Hg⟩, C0, C2, Hlev⟩, Hbuf⟩, Ho, Hin⟩
  iapply (body_runs m K c fun _ => bodyEnd m c)
  unfold bodyStart
  isplitr []
  · isplitl [Hg C0 C2 Hlev Hbuf]
    · isplitl [Hg]; · iexact Hg
      isplitl [C0]; · iexact C0
      isplitl [C2]; · iexact C2
      isplitl [Hlev] <;> iassumption
    isplitl [Ho] <;> iassumption
  · iintro H; iexact H

end Cert.Flash

end
-- ==== Proof.Launch.lean ====
/-
# The launch on the 32 devices

`run_main`: from any memory, with all semaphores at zero, every fair execution of the whole mesh ends; the result array of each
device then holds `merged m c`, its three arguments what they held, and every semaphore is at zero. It is stated over any float
values.

What the launch has to deal is one bundle per semaphore of the exchange (`bundle`). The bundles' invariants are shared by all
devices; a device keeps its own positions, and the rights to pay go to the device that pays: those of a barrier and of a receive
semaphore cross to the partner.
-/
module

public import proofs.«01_k».proof.Proof.Body
public import Idealize.ShloMosaic.Lib.Pipeline.CollectiveSegs

@[expose] public section

noncomputable section

namespace Cert.Flash

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ)

/-! ## The semaphores of the exchange, all devices together -/

/-- The kernel's own two semaphores. -/
abbrev ownSems : Fin 2 → SemLoc sig := fun i => semOf i.succ

/-- The two are the semaphores that the kernel allocates, and they are distinct from those of the staging. -/
theorem ownSemFacts : Pipeline.OwnSemFacts cfg0.spec ownSems := by decide

/-- Every window's array is held in full. -/
theorem share_full (c : Dev nD) (w : Fin cfg0.W) : (flashDat m 0 c).share w = fullShare := by unfold Dat.share; split <;> rfl

/-- All of the exchange's semaphores, by device and number. -/
abbrev cellAt (p : Dev nD × Fin 3) : GSem nD τ sig := cell p.2 p.1
/-- Different pairs of device and number are different semaphores. -/
theorem cellAt_injective : Function.Injective cellAt := fun p q h => Prod.ext (cell_eq_iff.mp h).2 (cell_eq_iff.mp h).1
/-- The set of all of them. -/
def allCells : Finset (GSem nD τ sig) := Finset.univ.map ⟨cellAt, cellAt_injective⟩

/-- The rights to pay them, one each. -/
abbrev tokAt (p : Dev nD × Fin 3) : GSem nD τ sig × ℕ × Unit := (cellAt p, 0, ())
/-- Different semaphores have different rights. -/
theorem tokAt_injective : Function.Injective tokAt := fun p q h => cellAt_injective (congrArg Prod.fst h)
/-- The set of all the rights. -/
def allToks : Finset (GSem nD τ sig × ℕ × Unit) := Finset.univ.map ⟨tokAt, tokAt_injective⟩

/-- The launch's ghost state: the staging pipeline's and the exchange's. -/
def ghost₀ : Ghost := (initOf (Pipeline.cells cfgs cellOf_inj) (Pipeline.launchToks cfgs cellOf_inj), initOf allCells allToks)

/-- What comes with one semaphore, before its invariant is made. -/
def bundle (p : Dev nD × Fin 3) : sProp 𝕄 :=
  iprop(roundState EX (plan m) (cellAt p) 0 ∗ reached EX (cellAt p) 0 ∗ atPos EX (cellAt p) 0 ∅ 0 ∗ dutyTok EX (cellAt p) 0 ())

/-- What comes with it afterwards. -/
def bundle' (p : Dev nD × Fin 3) : sProp 𝕄 :=
  iprop((∃ κ : ℕ, cellInv EX (plan m) κ (cellAt p)) ∗ reached EX (cellAt p) 0 ∗ atPos EX (cellAt p) 0 ∅ 0 ∗ dutyTok EX (cellAt p) 0 ())

/-- A device's three bundles. -/
def dealt (c : Dev nD) : sProp 𝕄 := bigSep Finset.univ fun k : Fin 3 => bundle m (c, k)

omit [FloatOps F] in
/-- A conjunction over three numbers, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- The exchange's ghost state splits into three bundles for every device. -/
theorem deal : BI.own (EX (initOf allCells allToks)) ⊢ (|==> bigSep Finset.univ (dealt m) : sProp 𝕄) := by
  have h : (bigSep Finset.univ (dealt m) : sProp 𝕄) = bigSep Finset.univ (bundle m) := (bigSep_univ_prod (bundle m)).symm
  have hc (Φ : GSem nD τ sig → sProp 𝕄) : bigSep allCells Φ = bigSep Finset.univ fun p => Φ (cellAt p) := by unfold allCells; rw [bigSep_map]; rfl
  have ht : bigSep allToks (fun x => (dutyTok EX x.1 x.2.1 x.2.2 : sProp 𝕄)) = bigSep Finset.univ fun p => dutyTok EX (cellAt p) 0 () := by
    unfold allToks; rw [bigSep_map]; rfl
  rw [h]; unfold bundle
  simp only [bigSep_sep']
  iintro H
  imod (Rounds.fund EX (plan m) allCells allToks) $$ H with ⟨Hs, Hr, Ha, Ht⟩
  imodintro
  isplitl [Hs]; · iapply (Entails.of_eq (hc fun g => roundState EX (plan m) g 0)); iexact Hs
  isplitl [Hr]; · iapply (Entails.of_eq (hc fun g => reached EX g 0)); iexact Hr
  isplitl [Ha]; · iapply (Entails.of_eq (hc fun g => atPos EX g 0 ∅ 0)); iexact Ha
  iapply (Entails.of_eq ht); iexact Ht

omit [FloatOps F] in
/-- The send and the receive semaphore are the kernel's own, -/
theorem own_zero (c : Dev nD) : (Pipeline.ownSems0 (Ix := Unit) (Name := ℕ) (U := Ghost) (Lvl := ℕ) (Val := Elt F) (τ := τ) ownSems c : sProp 𝕄)
    = iprop(semVal (cell 1 c) 0 ∗ semVal (cell 2 c) 0) := by
  rw [Pipeline.ownSems0_eq_of_list c ownSems [0, 1] (by decide) (by decide)]; rfl
omit [FloatOps F] in
/-- the barrier is the one semaphore besides. -/
theorem unscoped_zero (c : Dev nD) : (unscopedSems0 c : sProp 𝕄) = semVal (cell 0 c) 0 := by
  unfold unscopedSems0; rw [bigSep_eq_bigSepL_of_eq [semOf 0] (by decide) (by decide)]; rfl

/-- With its semaphore at zero a bundle's invariant is made. -/
theorem bundle_alloc (p : Dev nD × Fin 3) : iprop(semVal (cellAt p) 0 ∗ bundle m p) ⊢ |={Set.univ}=> bundle' m p := by
  unfold bundle bundle'
  iintro ⟨Hz, Hs, Hrest⟩
  imod ((Rounds.body_intro EX (plan m) (cellAt p)).trans (inv_alloc (E := Set.univ))) $$ [Hz Hs] with HI
  · isplitl [Hz] <;> iassumption
  imodintro
  isplitl [HI] <;> iassumption

/-- With its semaphores at zero a device makes the invariants of its three bundles. -/
theorem device_alloc (c : Dev nD) :
    iprop(Pipeline.ownSems0 (Ix := Unit) (Name := ℕ) (U := Ghost) (Lvl := ℕ) (Val := Elt F) (τ := τ) ownSems c ∗ unscopedSems0 c ∗ dealt m c)
      ⊢ |={Set.univ}=> bigSep Finset.univ fun k : Fin 3 => bundle' m (c, k) := by
  refine .trans ?_ ((bigSep_mono fun k _ => bundle_alloc m (c, k)).trans (bigSep_fupd _ _))
  rw [bigSep_sep', bigSep_three, own_zero, unscoped_zero]
  unfold dealt
  iintro ⟨⟨H1, H2⟩, H0, Hd⟩
  isplitr [Hd]
  · isplitl [H0]; · iexact H0
    isplitl [H1] <;> iassumption
  iexact Hd

/-! ## Handing the bundles out -/

/-- What all devices share: every invariant, and that round 0 is reached everywhere. -/
def known (K : Dev nD × Fin 3 → ℕ) : sProp 𝕄 :=
  iprop((bigSep Finset.univ fun p => cellInv EX (plan m) (K p) (cellAt p)) ∗ bigSep Finset.univ fun p => reached EX (cellAt p) 0)

/-- What all devices share can be used any number of times. -/
instance known_persistent (K : Dev nD × Fin 3 → ℕ) : BI.Persistent (known m K) := by unfold known; infer_instance

/-- It holds the invariant of each semaphore, -/
theorem known_inv (K : Dev nD × Fin 3 → ℕ) (p : Dev nD × Fin 3) : known m K ⊢ cellInv EX (plan m) (K p) (cellAt p) := by
  unfold known
  iintro ⟨H, -⟩
  iapply (show (bigSep Finset.univ fun p => (cellInv EX (plan m) (K p) (cellAt p) : sProp 𝕄)) ⊢ cellInv EX (plan m) (K p) (cellAt p) from bigSep_elim (Finset.mem_univ p)); iexact H
/-- and that round 0 is reached on each. -/
theorem known_reached (K : Dev nD × Fin 3 → ℕ) (p : Dev nD × Fin 3) : known m K ⊢ reached EX (cellAt p) 0 := by
  unfold known
  iintro ⟨-, H⟩
  iapply (show (bigSep Finset.univ fun p => (reached EX (cellAt p) 0 : sProp 𝕄)) ⊢ reached EX (cellAt p) 0 from bigSep_elim (Finset.mem_univ p)); iexact H

/-- What all share, with a device's own positions and rights, is what it starts with. -/
theorem ready_of_known (K : Dev nD × Fin 3 → ℕ) (c : Dev nD) : iprop(known m K ∗ positions c ∗ toPay c) ⊢ iprop(∃ K, ready m K c) := by
  unfold ready shared atRound
  iintro ⟨#HK, Hp, Ht⟩
  iexists K
  isplitr
  · isplitr; · iapply (known_inv m K (c, 0)); iexact HK
    isplitr; · iapply (known_inv m K (c, 1)); iexact HK
    isplitr; · iapply (known_inv m K (c, 2)); iexact HK
    isplitr; · iapply (known_inv m K (partner c, 0)); iexact HK
    iapply (known_inv m K (partner c, 2)); iexact HK
  isplitr
  · isplitr; · iapply (known_reached m K (partner c, 0)); iexact HK
    isplitr; · iapply (known_reached m K (c, 1)); iexact HK
    isplitr; · iapply (known_reached m K (c, 2)); iexact HK
    iapply (known_reached m K (partner c, 2)); iexact HK
  isplitl [Hp] <;> iassumption

omit [FloatOps F] in
/-- The rights to pay the barriers and the receive semaphores cross between partners; those of the send semaphores stay. -/
theorem rights_cross :
    (bigSep Finset.univ fun p : Dev nD × Fin 3 => (dutyTok EX (cellAt p) 0 () : sProp 𝕄)) = bigSep Finset.univ fun c : Dev nD => toPay c := by
  unfold toPay
  rw [bigSep_univ_prod, bigSep_congr (s := Finset.univ) fun (c : Dev nD) _ => bigSep_three (F := F) fun k => dutyTok EX (cellAt (c, k)) 0 (),
    bigSep_sep', bigSep_sep', bigSep_sep', bigSep_sep',
    bigSep_univ_equiv halves (fun c : Dev nD => (dutyTok EX (cell 0 c) 0 () : sProp 𝕄)),
    bigSep_univ_equiv halves (fun c : Dev nD => (dutyTok EX (cell 2 c) 0 () : sProp 𝕄))]
  rfl

omit [FloatOps F] in
/-- The positions on all semaphores are the positions of all devices. -/
theorem positions_all :
    (bigSep Finset.univ fun p : Dev nD × Fin 3 => (atPos EX (cellAt p) 0 ∅ 0 : sProp 𝕄)) = bigSep Finset.univ fun c : Dev nD => positions c := by
  rw [bigSep_univ_prod]
  exact bigSep_congr fun c _ => by unfold positions; rw [bigSep_three]

/-- All bundles, handed out. -/
theorem hand_out : (bigSep Finset.univ (bundle' m) : sProp 𝕄) ⊢ bigSep Finset.univ fun c => iprop(∃ K, ready m K c) := by
  unfold bundle'
  rw [bigSep_sep', bigSep_sep', bigSep_sep', positions_all, rights_cross]
  iintro ⟨HI, #HR, Hp, Ht⟩
  ihave HK := (BI.bigSep_exists_pi Finset.univ (fun (p : Dev nD × Fin 3) (κ : ℕ) => (cellInv EX (plan m) κ (cellAt p) : sProp 𝕄))) $$ HI
  icases HK with ⟨%K, #HI⟩
  iapply (((sep_mono_left (BI.bigSep_of_persistent Finset.univ (known m K))).trans (Entails.of_eq (bigSep_sep' Finset.univ _ _).symm)).trans
    (bigSep_mono fun c _ => ready_of_known m K c))
  isplitr
  · unfold known; isplitl; · iexact HI
    iexact HR
  · rw [bigSep_sep']
    isplitl [Hp] <;> iassumption

/-- From zero semaphores and the bundles, every device gets all that it starts the exchange with. -/
theorem set_up : (bigSep Finset.univ fun c => iprop(Pipeline.ownSems0 (Ix := Unit) (Name := ℕ) (U := Ghost) (Lvl := ℕ) (Val := Elt F) (τ := τ) ownSems c ∗ unscopedSems0 c ∗ dealt m c) : sProp 𝕄)
    ⊢ |={Set.univ}=> bigSep Finset.univ fun c => iprop(∃ K, ready m K c) :=
  ((bigSep_mono fun c _ => device_alloc m c).trans (bigSep_fupd _ _)).trans
    (BI.fupd_mono ((Entails.of_eq (bigSep_univ_prod (bundle' m)).symm).trans (hand_out m)))

/-! ## What is owed at the start -/

/-- To be someone's partner is mutual. -/
theorem partner_eq_iff {c d : Dev nD} : Iff (c = partner d) (d = partner c) :=
  ⟨fun h => by rw [h, partner_partner], fun h => by rw [h, partner_partner]⟩

/-- Device `d` owes one unit to its partner's barrier and to no other, -/
theorem owed_barrier (d c : Dev nD) : owedStart d (cell 0 c) () = if d = partner c then 1 else 0 := by
  unfold owedStart
  rw [Pi.add_apply, Finsupp.add_apply, tallyAt_apply, tallyAt_apply, if_neg fun h => absurd (cell_eq_iff.mp h.1).1 (by decide), Nat.zero_add]
  by_cases h : d = partner c
  · rw [if_pos h, if_pos ⟨cell_eq_iff.mpr ⟨rfl, partner_eq_iff.mpr h⟩, rfl⟩]
  · rw [if_neg h, if_neg fun h' => h (partner_eq_iff.mp (cell_eq_iff.mp h'.1).2)]
/-- and one copy's credit to its partner's receive semaphore. -/
theorem owed_receive (d c : Dev nD) : owedStart d (cell 2 c) () = if d = partner c then credit else 0 := by
  unfold owedStart
  rw [Pi.add_apply, Finsupp.add_apply, tallyAt_apply, tallyAt_apply, if_neg (c := cell 2 c = cell 0 (partner d) ∧ _) fun h => absurd (cell_eq_iff.mp h.1).1 (by decide), Nat.add_zero]
  by_cases h : d = partner c
  · rw [if_pos h, if_pos ⟨cell_eq_iff.mpr ⟨rfl, partner_eq_iff.mpr h⟩, rfl⟩]
  · rw [if_neg h, if_neg fun h' => h (partner_eq_iff.mp (cell_eq_iff.mp h'.1).2)]

/-- All devices together owe the barrier of `c` one unit, -/
theorem due_barrier (c : Dev nD) :
    tallyOn (cell 0 c) (launchCredit (Pipeline.owing owedStart) 0 (cell 0 c)) = (tallyAt (cell 0 c) () 1 : CellTallies nD τ sig Unit) := by
  unfold tallyAt; refine congrArg _ (Finsupp.ext fun u => ?_); cases u
  rw [Pipeline.launchCredit_owing, Finsupp.single_eq_same, Finset.sum_congr rfl fun d _ => owed_barrier d c,
    Finset.sum_ite_eq' Finset.univ (partner c) fun _ => 1, if_pos (Finset.mem_univ _)]

/-- and its receive semaphore one copy's credit. -/
theorem due_receive (c : Dev nD) :
    tallyOn (cell 2 c) (launchCredit (Pipeline.owing owedStart) 0 (cell 2 c)) = (tallyAt (cell 2 c) () credit : CellTallies nD τ sig Unit) := by
  unfold tallyAt; refine congrArg _ (Finsupp.ext fun u => ?_); cases u
  rw [Pipeline.launchCredit_owing, Finsupp.single_eq_same, Finset.sum_congr rfl fun d _ => owed_receive d c,
    Finset.sum_ite_eq' Finset.univ (partner c) fun _ => credit, if_pos (Finset.mem_univ _)]

omit [FloatOps F] in
/-- So device `c` is launched with these two credits. -/
theorem dues (c : Dev nD) :
    (Pipeline.launchCred owedStart c : sProp 𝕄) ⊢ iprop(cred (tallyAt (cell 0 c) () 1) ∗ cred (tallyAt (cell 2 c) () credit)) := by
  unfold Pipeline.launchCred
  rw [bigSep_univ_at _ (semOf 0), due_barrier]
  refine sep_mono_right ?_
  rw [← due_receive]
  exact bigSep_elim (Finset.mem_erase.mpr ⟨fun h => absurd (semOf_injective h) (by decide), Finset.mem_univ (semOf 2)⟩)

/-! ## Entry and exit -/

variable (ρ : Dev nD → PrngReg)

/-- What the launch gives device `c` is what it begins the exchange with. -/
theorem enter (c : Dev nD) :
    iprop(Pipeline.unscopedRestP Pipeline.Prefetch.none cfg0.spec c (fun b => m ((c : Thread nD τ).loc b)) ∗ levAts levelled level
        ∗ Pipeline.launchCred owedStart c ∗ prngReg c (ρ c) ∗ ∃ K, ready m K c)
      ⊢ |={Set.univ}=> iprop(begun m c ∗ emp) := by
  unfold begun
  iintro ⟨-, Hl, Hc, -, HK⟩
  ihave Hd := (dues (F := F) c) $$ Hc
  icases Hd with ⟨H0, H2⟩
  imodintro
  isplitl
  · isplitl [HK]; · iexact HK
    isplitl [H0]; · iexact H0
    isplitl [H2] <;> iassumption
  · iempintro

/-- With the kernel's scratch buffers that is its state before the body. -/
theorem at_entry (c : Dev nD) :
    iprop(begun m c ∗ Pipeline.prefHeld Pipeline.Prefetch.none c (fun _ => fullShare.right) (fun k => k.elim0) ∗ Pipeline.scopedRest cfg0.spec c)
      ⊢ (flashDat m 0 c).Φ 0 := by
  rw [show (flashDat m 0 c).Φ 0 = atEntry m c from rfl, scopedRest0_eq]
  unfold atEntry buffers
  iintro ⟨Hb, -, ⟨%f, Hs⟩, ⟨%g, Hl⟩⟩
  isplitl [Hb]; · iexact Hb
  isplitl [Hs]
  · iexists f; rw [sendAt_eq]; iexact Hs
  · iexists g; rw [landAt_eq]; iexact Hl

/-- Its state after the body gives back the semaphores at zero and the scratch buffers. -/
theorem at_exit (c : Dev nD) :
    (flashDat m 0 c).Φ (Fin.last cfg0.N) ⊢ iprop(unscopedSems0 c ∗ Pipeline.ownSems0 ownSems c ∗ Pipeline.scopedRest cfg0.spec c) := by
  rw [show (flashDat m 0 c).Φ (Fin.last cfg0.N) = atExit c from rfl, scopedRest0_eq, own_zero, unscoped_zero]
  unfold atExit buffers
  iintro ⟨⟨⟨%f, Hs⟩, ⟨%g, Hl⟩⟩, Z0, Z1, Z2⟩
  isplitl [Z0]; · iexact Z0
  isplitl [Z1 Z2]
  · isplitl [Z1] <;> iassumption
  isplitl [Hs]
  · iexists f; rw [← sendAt_eq]; iexact Hs
  · iexists g; rw [← landAt_eq]; iexact Hl

/-- The levels let the staging wait at every point, whatever the device owes there. -/
theorem staging_waits (c : Dev nD) : (levAts levelled level : sProp 𝕄) ⊢ Pipeline.cellsWaits cfgs (flashDat m) () 0 c :=
  Pipeline.cellsWaits_intro cfgs (flashDat m) () 0 c fun w s t =>
    may_wait_staging c _ (by fin_cases w <;> fin_cases s <;> decide) _ (by
      rcases t with ⟨_ | _, ht⟩
      · exact Or.inl rfl
      · exact Or.inr rfl)

/-! ## The run -/

set_option maxRecDepth 8000 in
/-- Every fair execution of the mesh ends with each array of the launch as the proof data say and all semaphores at zero. -/
theorem run_arrays : θ_run defs (onTc (τ := τ) (main (F := F))) ⟨m, fun _ => 0, ρ⟩ (fun r =>
    (∀ c : Dev nD, ∀ w : Fin cfg0.W, r.2.mem ((cfg0.win w).arr.view.loc (c : Thread nD τ)) = (flashDat m 0 c).arrAt w cfg0.N)
      ∧ r.2.sem = fun _ => 0) :=
  Pipeline.θ_run_region_owing_glob_pf (fun p => (cfgs p).toPCfg) (fun p => (cfgs p).toPCfg_adm) (flashDat m) () cellOf_inj (0 : Fin 1)
    winFacts0.to₀ ownSemFacts (Pipeline.PreFacts.none _) EPipe defs₀ noVariants m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := owedStart) (howed₀ := fun _ => rfl) (howedN := fun _ => rfl)
    (L := levelled) (lv := level) (hL := levelled_none) (hwaits := staging_waits m)
    (G := dealt m) (G' := fun c => iprop(∃ K, ready m K c)) (u₀ := ghost₀)
    (hu₀ := by
      unfold ghost₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := begun m) (Y := fun c => unscopedSems0 c) (Z := fun _ => iprop(emp))
    (hX := enter m ρ) (hin := at_entry m) (hout := at_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array ends at the merged result: its one block is the whole array, and it is written back once. -/
theorem result_array (c : Dev nD) : (flashDat m 0 c).arrAt (3 : Fin 4) cfg0.N = merged m c := by
  have h0 : (fun a => (win0_3.index (0 : Fin 1)) a * main_v1.ty.shape.size a) = fun _ => 0 := funext fun a => by fin_cases a <;> decide
  have hr := fun f => Memref.read_access_unit_zero (Elt F) main_v1 h0 (fun a => by fin_cases a <;> decide) f
  have hb : (win0_3.blk (0 : Fin 1)).view.read (Elt F) ((flashDat m 0 c).arrAt (3 : Fin 4) cfg0.N) = merged m c := by
    rw [show cfg0.N = ((0 : Fin 1) : Fin cfg0.N).val + 1 from rfl, (flashDat m 0 c).arrAt_succ (3 : Fin 4) (0 : Fin 1),
      show (cfg0.win (3 : Fin 4)).flush (0 : Fin 1) = true from by decide, if_pos rfl]
    exact View.read_write_univ _ _
  exact (hr _).symm.trans hb

omit [FloatOps F] in
/-- A device's queries, keys and values are its whole argument arrays. -/
theorem qOf_eq (c : Dev nD) : qOf m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
omit [FloatOps F] in
/-- The same of the keys, -/
theorem kOf_eq (c : Dev nD) : kOf m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
omit [FloatOps F] in
/-- and of the values. -/
theorem vOf_eq (c : Dev nD) : vOf m c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _

/-- Every fair execution of the mesh ends with each device's result at `merged m c`, its arguments as they were, and all semaphores
    at zero. -/
theorem run_main : θ_run defs (onTc (τ := τ) (main (F := F))) ⟨m, fun _ => 0, ρ⟩ (fun r =>
    (∀ c : Dev nD, r.2.mem ((c : Thread nD τ).loc main_v1) = merged m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨(h.1 c 3).trans (result_array m c),
    (h.1 c 0).trans ((flashDat m 0 c).arrAt_in (0 : Fin 4) rfl _),
    (h.1 c 1).trans ((flashDat m 0 c).arrAt_in (1 : Fin 4) rfl _),
    (h.1 c 2).trans ((flashDat m 0 c).arrAt_in (2 : Fin 4) rfl _)⟩, h.2⟩) (run_arrays m ρ)

end Cert.Flash

end
-- ==== Proof.Part.lean ====
/-
# What one device computes, read at an index

The kernel's parts at one element, over extended reals. The device multiplies every key row of every head with every head's query,
and keeps the products of a head with itself by multiplying with a mask that is one on the diagonal and zero elsewhere; likewise
for the values. Zero times anything is zero, so the mask picks one term of each sum (`mask_picks`).
-/
module

public import proofs.«01_k».proof.Proof.Protocol
public import Idealize.ShloMosaic.Lib.Pointwise

@[expose] public section

noncomputable section

namespace Cert.Flash

open Cert.KernelIdeal Cert.KernelIdeal.Gen
open Idealize.ShloMosaic

/-! ## The mask -/

/-- Comparing two row numbers below 8 as words gives the bit of their equality, which converts to one or zero. -/
theorem mask_word : ∀ a b : Fin 8,
    ((BitVec.setWidth 32 (IntOp.cmpi CmpIPredicate.eq (BitVec.ofNat 32 a.val) (BitVec.ofNat 32 b.val))).toInt = if a = b then 1 else 0) := by
  decide +kernel

/-- The mask is one on the diagonal and zero elsewhere. -/
theorem mask_at (a b : Fin 8) : k0_pay2 (F := Ideal) (ix2 a b) = if a = b then 1 else 0 := by
  pointwise [k0_pay2]
  show (((BitVec.setWidth 32 (IntOp.cmpi CmpIPredicate.eq (BitVec.ofNat 32 a.val) (BitVec.ofNat 32 b.val))).toInt : ℝ) : EReal) = _
  rw [mask_word a b]
  split <;> simp

/-- A sum of products with the mask's row or column is the one term on the diagonal. -/
theorem mask_picks (f : Fin 8 → EReal) (h : Fin 8) : ∑ x, f x * (if x = h then 1 else 0) = f h := by
  simp [mul_ite]

/-! ## The parts -/

variable (q : FVec Ideal S8x1x8x64 .bf16) (k v : FVec Ideal S8x512x8x64 .bf16)

/-- The score of row `j` of this device, for batch `b` and head `h`. -/
def scoreAt (b : Fin 8) (j : Fin 512) (h : Fin 8) : EReal :=
  ∑ d : Fin 64, k (ix4 b j h d) * (q (ix4 b 0 h d) * Ideal.ofBits .bf16 0x3E00#16)

/-- The largest of −∞ and this device's scores, for batch `b` and head `h`. -/
def maxAt (b h : Fin 8) : EReal :=
  Finset.fold max (Ideal.ofBits .f32 0xFF800000#32) (fun j : Fin 512 => scoreAt q k b j h) Finset.univ

/-- The kernel's scores, read at sequence `b`, row `j` and head `h`. -/
theorem scores_read (b : Fin 8) (j : Fin 512) (h : Fin 8) :
    k0_pay5 (F := Ideal) k0_pay2 (k0_pay3 q) (k0_pay4 k) (ix3 b j h) = scoreAt q k b j h := by
  pointwise [k0_pay5, k0_pay4, k0_pay3]
  simp only [mask_at]
  rw [mask_picks]
  rfl

/-- The kernel's maximum, read at a sequence and a head, is the largest score of the device's rows. -/
theorem max_read (b h : Fin 8) : k0_pay6 (F := Ideal) k0_pay2 (k0_pay3 q) (k0_pay4 k) (ix3 b 0 h) = maxAt q k b h := by
  pointwise [k0_pay6]
  simp only [scores_read]
  rfl

/-- The kernel's weight of a row is the exponential of its score less the maximum. -/
theorem weights_read (b : Fin 8) (j : Fin 512) (h : Fin 8) :
    k0_pay7 (F := Ideal) k0_pay2 (k0_pay3 q) (k0_pay4 k) (ix3 b j h) = Ideal.exp (scoreAt q k b j h - maxAt q k b h) := by
  pointwise [k0_pay7]
  rw [scores_read, max_read]

/-- The kernel's unnormalised output is the sum over the device's rows of weight times value. -/
theorem out_read (b h : Fin 8) (d : Fin 64) :
    k0_pay8 (F := Ideal) k0_pay2 (k0_pay3 q) (k0_pay4 k) v (ix3 b h d)
      = ∑ j : Fin 512, Ideal.exp (scoreAt q k b j h - maxAt q k b h) * v (ix4 b j h d) := by
  pointwise [k0_pay8]
  simp only [mask_at, weights_read]
  simp only [eq_comm (a := h)]
  rw [mask_picks]

/-- The maximum that is packed to be sent is that maximum. -/
theorem maxColumn_read (b h : Fin 8) : k0_pay9 (F := Ideal) k0_pay2 (k0_pay3 q) (k0_pay4 k) (ix3 b h 0) = maxAt q k b h := by
  pointwise [k0_pay9]
  exact max_read q k b h

/-- The sum that is packed to be sent is the sum of the weights of the device's rows. -/
theorem sumColumn_read (b h : Fin 8) :
    k0_pay10 (F := Ideal) k0_pay2 (k0_pay3 q) (k0_pay4 k) (ix3 b h 0) = ∑ j : Fin 512, Ideal.exp (scoreAt q k b j h - maxAt q k b h) := by
  pointwise [k0_pay10]
  simp only [weights_read]

/-- The merge of two devices' parts at one element. -/
theorem merge_read (o : FVec Ideal S8x8x64 .f32) (n l : FVec Ideal S8x8x1 .f32) (o' : FVec Ideal S8x8x64 .f32) (n' l' : FVec Ideal S8x8x1 .f32)
    (b h : Fin 8) (d : Fin 64) :
    k0_pay1 o n l o' n' l' (ix4 b 0 h d)
      = Ideal.div
          (o (ix3 b h d) * Ideal.exp (n (ix3 b h 0) - max (n (ix3 b h 0)) (n' (ix3 b h 0)))
            + o' (ix3 b h d) * Ideal.exp (n' (ix3 b h 0) - max (n (ix3 b h 0)) (n' (ix3 b h 0))))
          (l (ix3 b h 0) * Ideal.exp (n (ix3 b h 0) - max (n (ix3 b h 0)) (n' (ix3 b h 0)))
            + l' (ix3 b h 0) * Ideal.exp (n' (ix3 b h 0) - max (n (ix3 b h 0)) (n' (ix3 b h 0)))) := by
  pointwise [k0_pay1]

end Cert.Flash

end
-- ==== Proof.Whole.lean ====
/-
# The reference's result, read at an index

The reference in named steps: the scores of all 1024 rows, the largest of them, the weights, and the result, which `result_read`
states at one element as the sum of the values under the weights' shares.
-/
module

public import proofs.«01_k».proof.Proof.Gen.ReferenceIdeal
public import Idealize.ShloMosaic.Lib.Pointwise

@[expose] public section

noncomputable section

namespace Cert.Whole

open Cert.ReferenceIdeal Cert.ReferenceIdeal.Facts₀
open Idealize.ShloMosaic

variable (Q : FVec Ideal S8x1x8x64 .bf16) (K V : FVec Ideal S8x1024x8x64 .bf16)

/-- The scaled scores, -/
def scores : FVec Ideal S8x8x1x1024 .f32 :=
  mulf (Host.dotGeneral dot_S8x1x8x64_S8x1024x8x64_S8x8x1x1024_3_3_1_1_02_02 none (extf .f32 Q bitsLt_bf16_f32) (extf .f32 K bitsLt_bf16_f32))
    (broadcastInDim S8x8x1x1024 ![] bcast_S_S8x8x1x1024 (constant S_ .f32 0x3E000000#32))

/-- the largest score of each batch and head, -/
def largest : FVec Ideal S8x8x1 .f32 :=
  Host.reduce FloatOps.maximumf (scores Q K) (constant S_ .f32 0xFF800000#32) reducesTo_S8x8x1x1024_S8x8x1_d3 h_S_

/-- the exponentials of what the scores are above it, -/
def weights : FVec Ideal S8x8x1x1024 .f32 :=
  Host.exp (subf (scores Q K) (broadcastInDim S8x8x1x1024 ![0, 1, 2, 3] bcast_S8x8x1x1_S8x8x1x1024_0_1_2_3
    (broadcastInDim S8x8x1x1 ![0, 1, 2] bcast_S8x8x1_S8x8x1x1_0_1_2 (largest Q K))))

/-- and the result: the values under the weights' shares of their total. -/
def result : FVec Ideal S8x1x8x64 .f32 :=
  transpose S8x1x8x64 [0, 3, 1, 2]
    (Host.dotGeneral dot_S8x1024x8x64_S8x8x1x1024_S8x8x64x1_1_3_3_2_02_01 none (extf .f32 V bitsLt_bf16_f32)
      (Host.divf (weights Q K) (broadcastInDim S8x8x1x1024 ![0, 1, 2, 3] bcast_S8x8x1x1_S8x8x1x1024_0_1_2_3
        (broadcastInDim S8x8x1x1 ![0, 1, 2] bcast_S8x8x1_S8x8x1x1_0_1_2
          (Host.reduceAdd (weights Q K) (constant S_ .f32 0x00000000#32) reducesTo_S8x8x1x1024_S8x8x1_d3 h_S_)))))
    transposes_S8x8x64x1_S8x1x8x64_0_3_1_2

/-- The reference's scores, read at sequence `b`, head `h` and row `r`. -/
theorem scores_read (b h : Fin 8) (r : Fin 1024) :
    scores Q K (ix4 b h 0 r) = (∑ d : Fin 64, Q (ix4 b 0 h d) * K (ix4 b r h d)) * Ideal.ofBits .f32 0x3E000000#32 := by
  pointwise [scores]

/-- Its maximum, read at a sequence and a head, is the largest score of all 1024 rows, taken from the printed starting value. -/
theorem largest_read (b h : Fin 8) :
    largest Q K (ix3 b h 0) = Finset.fold max (Ideal.ofBits .f32 0xFF800000#32) (fun r : Fin 1024 => scores Q K (ix4 b h 0 r)) Finset.univ := by
  pointwise [largest]

/-- Its weight of a row is the exponential of the row's score less the maximum. -/
theorem weights_read (b h : Fin 8) (r : Fin 1024) :
    weights Q K (ix4 b h 0 r) = Ideal.exp (scores Q K (ix4 b h 0 r) - largest Q K (ix3 b h 0)) := by
  pointwise [weights]

/-- Its result is the sum over all rows of value times the row's share of the weights. -/
theorem result_read (b h : Fin 8) (d : Fin 64) :
    result Q K V (ix4 b 0 h d)
      = ∑ r : Fin 1024, V (ix4 b r h d)
          * Ideal.div (weights Q K (ix4 b h 0 r)) (∑ r : Fin 1024, weights Q K (ix4 b h 0 r)) := by
  pointwise [result]

end Cert.Whole

end
-- ==== Proof.Softmax.lean ====
/-
# The softmax of two halves

Weighted means over extended reals. Every score is a real number; the values that are averaged may be infinite. A device forms,
over its own half of the rows, the weights exp(score − m) for a number m of its own, and the two sums Σ weight·value and Σ weight.
Two halves are merged by scaling both to one number, and the quotient of the two totals is the mean of all values under the
softmax of all scores, whatever numbers were subtracted (`mean_of_halves`). Nothing here names a program.
-/
module

public import Idealize.ShloMosaic.PureOps.Ideal

@[expose] public section

noncomputable section

namespace Cert.Flash

open Idealize.ShloMosaic

variable {ι κ : Type} [Fintype ι] [Fintype κ]

/-! ## Sums with a real factor -/

/-- A sum of real numbers is the same in the extended reals. -/
theorem sum_of_reals (f : ι → ℝ) : ∑ i, (f i : EReal) = ((∑ i, f i : ℝ) : EReal) := by
  classical
  have key : ∀ s : Finset ι, ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact key Finset.univ

/-- A real factor that is not negative goes through a sum of extended reals. -/
theorem factor_through_sum (r : ℝ) (hr : 0 ≤ r) (f : ι → EReal) : (∑ i, f i) * (r : EReal) = ∑ i, f i * (r : EReal) := by
  classical
  have key : ∀ s : Finset ι, (∑ i ∈ s, f i) * (r : EReal) = ∑ i ∈ s, f i * (r : EReal) := by
    intro s
    induction s using Finset.induction_on with
    | empty => simp
    | insert a s ha ih =>
      rw [Finset.sum_insert ha, Finset.sum_insert ha, ← ih,
        EReal.right_distrib_of_nonneg_of_ne_top (EReal.coe_nonneg.2 hr) (EReal.coe_ne_top r)]
  exact key Finset.univ

/-- The same for a sum of two. -/
theorem factor_through_add (r : ℝ) (hr : 0 ≤ r) (x y : EReal) : (x + y) * (r : EReal) = x * (r : EReal) + y * (r : EReal) :=
  EReal.right_distrib_of_nonneg_of_ne_top (EReal.coe_nonneg.2 hr) (EReal.coe_ne_top r) x y

/-- The largest of −∞ and finitely many real numbers, of which there is one at least, is real. -/
theorem largest_is_real [Nonempty ι] (f : ι → ℝ) : ∃ M : ℝ, Finset.fold max (⊥ : EReal) (fun i => (f i : EReal)) Finset.univ = M := by
  classical
  have key : ∀ s : Finset ι, Finset.fold max (⊥ : EReal) (fun i => (f i : EReal)) s = ⊥ ∧ s = ∅
      ∨ ∃ M : ℝ, Finset.fold max (⊥ : EReal) (fun i => (f i : EReal)) s = M := by
    intro s
    refine Finset.induction_on s (.inl ⟨rfl, rfl⟩) ?_
    intro a s ha ih
    refine .inr ?_
    rw [Finset.fold_insert ha]
    rcases ih with ⟨h, -⟩ | ⟨M, h⟩
    · exact ⟨f a, by rw [h, max_eq_left bot_le]⟩
    · exact ⟨max (f a) M, by rw [h]; exact (EReal.coe_strictMono.monotone.map_max).symm⟩
  rcases key Finset.univ with ⟨-, h⟩ | h
  · exact absurd h Finset.univ_nonempty.ne_empty
  · exact h

/-! ## Weights -/

/-- The weight of a real score is the real exponential. -/
theorem weight_real (s m : ℝ) : Ideal.exp ((s : EReal) - (m : EReal)) = (Real.exp (s - m) : EReal) := by
  rw [← EReal.coe_sub, Ideal.exp_coe]

/-- Scaling a weight moves the number that was subtracted: exp(s − m)·exp(m − n) = exp(s − n). -/
theorem weight_moved (s m n : ℝ) : Real.exp (s - m) * Real.exp (m - n) = Real.exp (s - n) := by
  rw [← Real.exp_add]; congr 1; ring

/-- A half's weighted sum of values, scaled, is the weighted sum with the other number subtracted. -/
theorem values_moved (S : ι → ℝ) (V : ι → EReal) (m n : ℝ) :
    (∑ i, Ideal.exp ((S i : EReal) - (m : EReal)) * V i) * Ideal.exp ((m : EReal) - (n : EReal))
      = ∑ i, (Real.exp (S i - n) : EReal) * V i := by
  rw [weight_real, factor_through_sum _ (Real.exp_pos _).le]
  refine Finset.sum_congr rfl fun i _ => ?_
  rw [weight_real, mul_right_comm, ← EReal.coe_mul, weight_moved]

/-- The same for a half's sum of weights, which is a real number. -/
theorem weights_moved (S : ι → ℝ) (m n : ℝ) :
    (∑ i, Ideal.exp ((S i : EReal) - (m : EReal))) * Ideal.exp ((m : EReal) - (n : EReal))
      = ((∑ i, Real.exp (S i - n) : ℝ) : EReal) := by
  rw [weight_real, factor_through_sum _ (Real.exp_pos _).le, ← sum_of_reals]
  refine Finset.sum_congr rfl fun i _ => ?_
  rw [weight_real, ← EReal.coe_mul, weight_moved]

/-- A weight over the total of the weights does not depend on the number that was subtracted. -/
theorem share_moved (s t m n : ℝ) : Real.exp (s - n) * (1 / (t * Real.exp (-n))) = Real.exp (s - m) * (1 / (t * Real.exp (-m))) := by
  rw [sub_eq_add_neg, sub_eq_add_neg, Real.exp_add, Real.exp_add]
  have hm := (Real.exp_pos (-m)).ne'
  have hn := (Real.exp_pos (-n)).ne'
  rcases eq_or_ne t 0 with rfl | ht
  · simp
  · field_simp

/-- A sum of weights is the sum of the exponentials times one factor. -/
theorem total_factored (S : ι → ℝ) (n : ℝ) : ∑ i, Real.exp (S i - n) = (∑ i, Real.exp (S i)) * Real.exp (-n) := by
  rw [Finset.sum_mul]
  refine Finset.sum_congr rfl fun i _ => ?_
  rw [sub_eq_add_neg, Real.exp_add]

/-! ## The merge -/

/-- The mean of the values of one half, then of the other, under the softmax of all scores, with `M` subtracted from them. -/
def softmaxMean (S : ι → ℝ) (T : κ → ℝ) (V : ι → EReal) (W : κ → EReal) (M : ℝ) : EReal :=
  ∑ i, Ideal.div (Ideal.exp ((S i : EReal) - (M : EReal)))
      (∑ i, Ideal.exp ((S i : EReal) - (M : EReal)) + ∑ k, Ideal.exp ((T k : EReal) - (M : EReal))) * V i
    + ∑ k, Ideal.div (Ideal.exp ((T k : EReal) - (M : EReal)))
      (∑ i, Ideal.exp ((S i : EReal) - (M : EReal)) + ∑ k, Ideal.exp ((T k : EReal) - (M : EReal))) * W k

/-- Two halves with numbers `m` and `n` of their own subtracted, merged by way of a third, have the quotient of the scaled totals
equal to the mean under the softmax of all scores. -/
theorem mean_of_halves [Nonempty ι] (S : ι → ℝ) (T : κ → ℝ) (V : ι → EReal) (W : κ → EReal) (m n x M : ℝ) :
    Ideal.div
      ((∑ i, Ideal.exp ((S i : EReal) - (m : EReal)) * V i) * Ideal.exp ((m : EReal) - (x : EReal))
        + (∑ k, Ideal.exp ((T k : EReal) - (n : EReal)) * W k) * Ideal.exp ((n : EReal) - (x : EReal)))
      ((∑ i, Ideal.exp ((S i : EReal) - (m : EReal))) * Ideal.exp ((m : EReal) - (x : EReal))
        + (∑ k, Ideal.exp ((T k : EReal) - (n : EReal))) * Ideal.exp ((n : EReal) - (x : EReal)))
      = softmaxMean S T V W M := by
  have pos : ∀ z : ℝ, 0 < (∑ i, Real.exp (S i) + ∑ k, Real.exp (T k)) * Real.exp (-z) := fun z =>
    mul_pos (add_pos_of_pos_of_nonneg (Finset.sum_pos (fun i _ => Real.exp_pos _) Finset.univ_nonempty)
      (Finset.sum_nonneg fun k _ => (Real.exp_pos _).le)) (Real.exp_pos _)
  have total : ∀ z : ℝ, ((∑ i, Real.exp (S i - z) : ℝ) : EReal) + ((∑ k, Real.exp (T k - z) : ℝ) : EReal)
      = (((∑ i, Real.exp (S i) + ∑ k, Real.exp (T k)) * Real.exp (-z) : ℝ) : EReal) := fun z => by
    rw [← EReal.coe_add, total_factored, total_factored, add_mul]
  unfold softmaxMean
  rw [values_moved, values_moved, weights_moved, weights_moved, total]
  simp only [weight_real]
  rw [sum_of_reals, sum_of_reals, total, Ideal.div_coe (pos x).ne', factor_through_add _ (one_div_pos.2 (pos x)).le,
    factor_through_sum _ (one_div_pos.2 (pos x)).le, factor_through_sum _ (one_div_pos.2 (pos x)).le]
  congr 1
  · refine Finset.sum_congr rfl fun i _ => ?_
    rw [Ideal.div_coe (pos M).ne', mul_right_comm, ← EReal.coe_mul, ← EReal.coe_mul, share_moved _ _ M]
  · refine Finset.sum_congr rfl fun i _ => ?_
    rw [Ideal.div_coe (pos M).ne', mul_right_comm, ← EReal.coe_mul, ← EReal.coe_mul, share_moved _ _ M]

end Cert.Flash

end
-- ==== Proof.Value.lean ====
/-
# The merged result is the reference's

Device `c` holds rows 512·(c / 16) to 512·(c / 16) + 511 of the keys and values (`row`), and its partner the other half
(`rows_split`). With real queries and keys every score is real, the kernel's and the reference's are the same number
(`score_kernel`, `score_whole`), and what a device and its partner merge is the mean of all values under the softmax of all scores:
the reference's result (`merged_is_result`).
-/
module

public import proofs.«01_k».proof.Proof.Part
public import proofs.«01_k».proof.Proof.Whole
public import proofs.«01_k».proof.Proof.Softmax
public import Idealize.ShloMosaic.Lib.Layout

@[expose] public section

noncomputable section

namespace Cert.Flash

open Cert.KernelIdeal Cert.KernelIdeal.Gen
open Idealize.ShloMosaic Idealize.ShloMosaic.TcCoe

/-! ## Rows -/

/-- Where row `j` of device `c` lies in the whole arrays. -/
def row (c : Dev nD) (j : Fin 512) : Fin 1024 := ⟨c.val / 16 * 512 + j.val, by have := c.isLt; have : nD = 32 := rfl; omega⟩

/-- A sum over all rows is the sum over a device's rows and the sum over its partner's. -/
theorem rows_split (c : Dev nD) (f : Fin 1024 → EReal) : ∑ r, f r = ∑ j, f (row c j) + ∑ j, f (row (partner c) j) := by
  have hc : c.val < 32 := c.isLt
  have halves : ∑ r, f r = ∑ j : Fin 512, f ⟨j.val, by omega⟩ + ∑ j : Fin 512, f ⟨512 + j.val, by omega⟩ :=
    Fin.sum_univ_add (a := 512) (b := 512) f
  have first : ∀ (e : Dev nD), e.val < 16 → ∀ j, row e j = ⟨j.val, by omega⟩ := fun e he j =>
    Fin.ext (by show e.val / 16 * 512 + j.val = j.val; omega)
  have second : ∀ (e : Dev nD), 16 ≤ e.val → ∀ j, row e j = ⟨512 + j.val, by omega⟩ := fun e he j =>
    Fin.ext (by have : e.val < 32 := e.isLt; show e.val / 16 * 512 + j.val = 512 + j.val; omega)
  have hp : (partner c).val = (c.val + 16) % 32 := rfl
  rw [halves]
  by_cases h : c.val < 16
  · simp only [first c h, second (partner c) (by omega)]
  · simp only [second c (by omega), first (partner c) (by omega)]
    exact add_comm _ _

/-- Every row is one of the rows of some device. -/
theorem row_of_some (r : Fin 1024) : ∃ (c : Dev nD) (j : Fin 512), row c j = r := by
  by_cases h : r.val < 512
  · exact ⟨⟨0, by decide⟩, ⟨r.val, h⟩, Fin.ext (by show 0 / 16 * 512 + r.val = r.val; omega)⟩
  · exact ⟨⟨16, by decide⟩, ⟨r.val - 512, by omega⟩, Fin.ext (by show 16 / 16 * 512 + (r.val - 512) = r.val; omega)⟩

/-- What device `c` holds of a whole array of keys or values. -/
abbrev share (c : Dev nD) (X : (⟨4, ![8, 1024, 8, 64]⟩ : Shape).Idx → EReal) : (⟨4, ![8, 512, 8, 64]⟩ : Shape).Idx → EReal :=
  Layout.blockN ⟨4, ![8, 512, 8, 64]⟩ ⟨4, ![8, 1024, 8, 64]⟩ (Layout.meshBlock [2, 4, 4] ![[], [0], [], []] c) X

/-- It is the rows that `row` names. -/
theorem share_read (c : Dev nD) (X : (⟨4, ![8, 1024, 8, 64]⟩ : Shape).Idx → EReal) (b : Fin 8) (j : Fin 512) (h : Fin 8) (d : Fin 64) :
    share c X (ix4 b j h d) = X (ix4 b (row c j) h d) := by
  unfold share
  rw [Layout.blockN_apply]
  congr 1
  funext a
  refine Fin.ext ?_
  rw [Layout.TilesN.idx_val]
  match a with
  | ⟨0, _⟩ => show 0 * 8 + b.val = b.val; omega
  | ⟨1, _⟩ =>
    have hc : c.val < 32 := c.isLt
    show (c.val / 16 % 2 * 1 + 0) * 512 + j.val = c.val / 16 * 512 + j.val
    omega
  | ⟨2, _⟩ => show 0 * 8 + h.val = h.val; omega
  | ⟨3, _⟩ => show 0 * 64 + d.val = d.val; omega

/-! ## Scores -/

/-- The kernel's scale factor, in bf16, is an eighth, -/
theorem scale_kernel : Ideal.ofBits .bf16 0x3E00#16 = ((1 / 8 : ℝ) : EReal) := by
  simp [Ideal.ofBits, Ideal.ieee, -EReal.coe_mul]; norm_num
/-- and so is the reference's, in f32. -/
theorem scale_whole : Ideal.ofBits .f32 0x3E000000#32 = ((1 / 8 : ℝ) : EReal) := by
  simp [Ideal.ofBits, Ideal.ieee, -EReal.coe_mul]; norm_num

/-- A maximum starts from −∞. -/
theorem start_bot : Ideal.ofBits .f32 0xFF800000#32 = ⊥ := by simp [Ideal.ofBits, Ideal.ieee]

section Real

variable (Qr : (⟨4, ![8, 1, 8, 64]⟩ : Shape).Idx → ℝ) (Kr : (⟨4, ![8, 1024, 8, 64]⟩ : Shape).Idx → ℝ)

/-- The score of row `r`, a real number. -/
def scoreReal (b : Fin 8) (r : Fin 1024) (h : Fin 8) : ℝ := (∑ d : Fin 64, Qr (ix4 b 0 h d) * Kr (ix4 b r h d)) * (1 / 8)

/-- The reference computes it, -/
theorem score_whole (b h : Fin 8) (r : Fin 1024) :
    Cert.Whole.scores (fun i => (Qr i : EReal)) (fun i => (Kr i : EReal)) (ix4 b h 0 r) = (scoreReal Qr Kr b r h : EReal) := by
  rw [Cert.Whole.scores_read, scale_whole]
  simp only [← EReal.coe_mul]
  rw [sum_of_reals, ← EReal.coe_mul]
  rfl

/-- and so does the device that holds the row. -/
theorem score_kernel (c : Dev nD) (b : Fin 8) (j : Fin 512) (h : Fin 8) :
    scoreAt (fun i => (Qr i : EReal)) (share c fun i => (Kr i : EReal)) b j h = (scoreReal Qr Kr b (row c j) h : EReal) := by
  unfold scoreAt
  rw [scale_kernel]
  simp only [share_read, ← EReal.coe_mul]
  rw [sum_of_reals]
  congr 1
  unfold scoreReal
  rw [Finset.sum_mul]
  exact Finset.sum_congr rfl fun d _ => by ring

/-- The largest score that the device finds is real. -/
theorem max_kernel (c : Dev nD) (b h : Fin 8) :
    ∃ M : ℝ, maxAt (fun i => (Qr i : EReal)) (share c fun i => (Kr i : EReal)) b h = (M : EReal) := by
  unfold maxAt
  simp only [score_kernel, start_bot]
  exact largest_is_real _

/-- The largest score that the reference finds is real. -/
theorem max_whole (b h : Fin 8) :
    ∃ M : ℝ, Cert.Whole.largest (fun i => (Qr i : EReal)) (fun i => (Kr i : EReal)) (ix3 b h 0) = (M : EReal) := by
  rw [Cert.Whole.largest_read]
  simp only [score_whole, start_bot]
  exact largest_is_real _

/-! ## The result -/

/-- The parts of a device and of its partner, merged, at one element: the reference's. -/
theorem halves_merge (V : (⟨4, ![8, 1024, 8, 64]⟩ : Shape).Idx → EReal) (c : Dev nD) (b h : Fin 8) (d : Fin 64) :
    k0_pay1 (F := Ideal)
      (k0_pay8 (F := Ideal) k0_pay2 (k0_pay3 fun i => (Qr i : EReal)) (k0_pay4 (share c fun i => (Kr i : EReal))) (share c V))
      (k0_pay9 (F := Ideal) k0_pay2 (k0_pay3 fun i => (Qr i : EReal)) (k0_pay4 (share c fun i => (Kr i : EReal))))
      (k0_pay10 (F := Ideal) k0_pay2 (k0_pay3 fun i => (Qr i : EReal)) (k0_pay4 (share c fun i => (Kr i : EReal))))
      (k0_pay8 (F := Ideal) k0_pay2 (k0_pay3 fun i => (Qr i : EReal)) (k0_pay4 (share (partner c) fun i => (Kr i : EReal))) (share (partner c) V))
      (k0_pay9 (F := Ideal) k0_pay2 (k0_pay3 fun i => (Qr i : EReal)) (k0_pay4 (share (partner c) fun i => (Kr i : EReal))))
      (k0_pay10 (F := Ideal) k0_pay2 (k0_pay3 fun i => (Qr i : EReal)) (k0_pay4 (share (partner c) fun i => (Kr i : EReal))))
      (ix4 b 0 h d)
    = Cert.Whole.result (fun i => (Qr i : EReal)) (fun i => (Kr i : EReal)) V (ix4 b 0 h d) := by
  obtain ⟨m, hm⟩ := max_kernel Qr Kr c b h
  obtain ⟨n, hn⟩ := max_kernel Qr Kr (partner c) b h
  obtain ⟨M, hM⟩ := max_whole Qr Kr b h
  rw [merge_read]
  simp only [out_read, maxColumn_read, sumColumn_read, score_kernel, hm, hn, share_read]
  rw [← EReal.coe_strictMono.monotone.map_max, mean_of_halves _ _ _ _ m n (max m n) M, Cert.Whole.result_read]
  simp only [Cert.Whole.weights_read, score_whole, hM]
  rw [rows_split c, rows_split c fun r => Ideal.exp ((scoreReal Qr Kr b r h : EReal) - (M : EReal))]
  unfold softmaxMean
  simp only [mul_comm]

end Real

/-- With real queries and keys, what every device ends with is the reference's result. -/
theorem merged_is_result (m : (ℓ : Loc nD τ sig) → Buf (Elt Ideal) ℓ) (Q : (⟨4, ![8, 1, 8, 64]⟩ : Shape).Idx → EReal)
    (K V : (⟨4, ![8, 1024, 8, 64]⟩ : Shape).Idx → EReal) (hQ : ∀ i, ∃ r : ℝ, Q i = (r : EReal)) (hK : ∀ i, ∃ r : ℝ, K i = (r : EReal))
    (hq : ∀ c, qOf m c = Q) (hk : ∀ c, kOf m c = share c K) (hv : ∀ c, vOf m c = share c V) (c : Dev nD) :
    merged m c = Cert.Whole.result Q K V := by
  choose Qr hQr using hQ
  choose Kr hKr using hK
  obtain rfl : Q = fun i => (Qr i : EReal) := funext hQr
  obtain rfl : K = fun i => (Kr i : EReal) := funext hKr
  funext i
  obtain ⟨b, z, h, d, rfl⟩ : ∃ (b : Fin 8) (z : Fin 1) (h : Fin 8) (d : Fin 64), i = ix4 b z h d := ⟨_, _, _, _, eq_ix4 i⟩
  obtain rfl : z = 0 := Subsingleton.elim _ _
  unfold merged partOut partMax partSum
  rw [hq, hq, hk, hk, hv, hv]
  exact halves_merge Qr Kr V c b h d

end Cert.Flash

end
-- ==== Proof.Finite.lean ====
/-
# The precondition: queries and keys are real numbers

The predicate compares the absolute value of every element of the queries and of the keys with +∞. An extended real whose absolute
value is below +∞ is a real number.
-/
module

public import proofs.«01_k».proof.Proof.Gen.Pre_finite_scores_KernelIdeal
public import Idealize.ShloMosaic.PureOps.Ideal
public import Idealize.ShloMosaic.Lib.ReduceAll

@[expose] public section

noncomputable section

namespace Cert.Finite

open Cert.Pre_finite_scores_KernelIdeal
open Idealize.ShloMosaic

/-- A result without axes has one index. -/
instance oneIndex : Subsingleton S_.Idx := ⟨fun _ _ => funext fun a => a.elim0⟩

/-- The bf16 pattern 0x7F80 is +∞. -/
theorem limit_top : Ideal.ofBits .bf16 0x7F80#16 = ⊤ := by simp [Ideal.ofBits, Ideal.ieee]

/-- An element that passed the comparison is real. -/
theorem real_of_below (x : EReal) (h : Ideal.cmp .olt (max x (-x)) (Ideal.ofBits .bf16 0x7F80#16) = 1#1) : ∃ r : ℝ, x = r := by
  rw [limit_top] at h
  have hlt : max x (-x) < ⊤ := by
    by_contra hn
    have : Ideal.cmp .olt (max x (-x)) ⊤ = 0#1 := by unfold Ideal.cmp; simp only [decide_eq_false hn]; rfl
    rw [this] at h
    exact absurd h (by decide)
  induction x with
  | bot => exact absurd hlt (by simp)
  | top => exact absurd hlt (by simp)
  | coe r => exact ⟨r, rfl⟩

/-- Where the predicate holds, every query and every key is real. -/
theorem reals_of_pre (q : FVec Ideal S8x1x8x64 .bf16) (k v : FVec Ideal S8x512x8x64 .bf16)
    (hp : fn (F := Ideal) q k v = fun _ => 1#1) : (∀ i, ∃ r : ℝ, q i = (r : EReal)) ∧ (∀ i, ∃ r : ℝ, k i = (r : EReal)) := by
  have h := congrFun hp (fun a => a.elim0)
  obtain ⟨hq, hk⟩ := IntOp.andi_eq_one.1 h
  exact ⟨fun i => real_of_below _ (Host.reduce_andi_all _ _ _ _ _ hq i), fun i => real_of_below _ (Host.reduce_andi_all _ _ _ _ _ hk i)⟩

end Cert.Finite

end
-- ==== Proof.lean ====
/-
# The claims of the distributed flash decoding kernel

The kernel's run is one theorem over any float values (`Cert.Flash.run_main`, Proof/Launch.lean). The two kernel programs have the
same text, so both frames are that run with the result's value dropped. At extended reals the value is the reference's result
(`Cert.Flash.merged_is_result`, Proof/Value.lean), which is the algebraic claim.
-/
module

public import proofs.«01_k».proof.Defs
public import proofs.«01_k».proof.Proof.Launch
public import proofs.«01_k».proof.Proof.Value
public import proofs.«01_k».proof.Proof.Finite
public import proofs.«01_k».proof.Proof.Gen.Kernel
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal

@[expose] public section

noncomputable section

namespace Cert.Proof

open Idealize.ShloMosaic Idealize.SL.Sem

/-- The two kernel programs have one and the same body table, label by label. -/
theorem table_same : Cert.Kernel.defs₀ (F := Bits) = Cert.KernelIdeal.defs₀ (F := Bits) := by
  unfold Cert.Kernel.defs₀ Cert.KernelIdeal.defs₀
  congr 1
  funext a b
  rcases a with ⟨_ | a, h⟩
  · rfl
  · exact absurd h (Nat.not_lt.2 (Nat.le_add_left _ _))

/-- So the two programs define the same bodies. -/
theorem defs_same : Cert.Kernel.defs (F := Bits) = Cert.KernelIdeal.defs (F := Bits) :=
  congrArg (Pipeline.defs (Cert.KernelIdeal.pcfgs (F := Bits))) table_same

/-- The kernel as printed runs, over bit patterns. -/
theorem frame_kernel : Cert.quiescent_Kernel := fun m g _ => by
  rw [defs_same]
  exact (θ_run (Cert.KernelIdeal.defs (F := Bits)) _ _).mono (fun _ h => ⟨fun c => (h.1 c).2, h.2⟩) (Cert.Flash.run_main (F := Bits) m g)

/-- The idealized kernel runs, -/
theorem frame_ideal : Cert.quiescent_KernelIdeal := fun m g _ =>
  (θ_run Cert.KernelIdeal.defs _ _).mono (fun _ h => ⟨fun c => (h.1 c).2, h.2⟩) (Cert.Flash.run_main (F := Ideal) m g)

/-- and so does the reference. -/
theorem frame_reference : Cert.quiescent_ReferenceIdeal := fun m g _ =>
  (θ_run Cert.ReferenceIdeal.defs _ _).mono (fun r h => ⟨fun c => ⟨(h c).2.1, (h c).2.2.1, (h c).2.2.2⟩, sem_eq_zero_of_no_sems (by decide) r.2⟩)
    (Cert.ReferenceIdeal.Value.run (F := Ideal) m g)

/-- With real queries and keys the two results are the same: what every device ends with is the reference's result, over the
extended reals. -/
theorem same_result : Cert.algebraic_KernelIdeal_ReferenceIdeal_pre_finite_scores_KernelIdeal := fun m g m' g' hpre hagree => by
  let Q := m' (((0 : Dev Cert.ReferenceIdeal.nD).tc : Thread Cert.ReferenceIdeal.nD Cert.ReferenceIdeal.τ).loc Cert.ReferenceIdeal.main_arg0)
  let K := m' (((0 : Dev Cert.ReferenceIdeal.nD).tc : Thread Cert.ReferenceIdeal.nD Cert.ReferenceIdeal.τ).loc Cert.ReferenceIdeal.main_arg1)
  let V := m' (((0 : Dev Cert.ReferenceIdeal.nD).tc : Thread Cert.ReferenceIdeal.nD Cert.ReferenceIdeal.τ).loc Cert.ReferenceIdeal.main_arg2)
  have hq : ∀ c, Cert.Flash.qOf m c = Q := fun c => (Cert.Flash.qOf_eq m c).trans (hagree c).1
  have hk : ∀ c, Cert.Flash.kOf m c = Cert.Flash.share c K := fun c => (Cert.Flash.kOf_eq m c).trans (hagree c).2.1
  have hv : ∀ c, Cert.Flash.vOf m c = Cert.Flash.share c V := fun c => (Cert.Flash.vOf_eq m c).trans (hagree c).2.2
  have reals := fun c => Cert.Finite.reals_of_pre _ _ _ (hpre c)
  have hQ : ∀ i, ∃ r : ℝ, Q i = (r : EReal) := fun i => by
    obtain ⟨r, hr⟩ := (reals 0).1 i
    exact ⟨r, (congrFun (hagree 0).1 i).symm.trans hr⟩
  have hK : ∀ i, ∃ r : ℝ, K i = (r : EReal) := fun i => by
    obtain ⟨b, z, h, d, rfl⟩ : ∃ (b : Fin 8) (z : Fin 1024) (h : Fin 8) (d : Fin 64), i = ix4 b z h d := ⟨_, _, _, _, eq_ix4 i⟩
    obtain ⟨c, j, rfl⟩ := Cert.Flash.row_of_some z
    obtain ⟨r, hr⟩ := (reals c).2 (ix4 b j h d)
    exact ⟨r, (Cert.Flash.share_read c K b j h d).symm.trans ((congrFun (hagree c).2.1 (ix4 b j h d)).symm.trans hr)⟩
  refine ⟨Cert.Whole.result Q K V, ?_, ?_⟩
  · exact (θ_run Cert.KernelIdeal.defs _ _).mono
      (fun _ h c => ⟨(h.1 c).1.trans (Cert.Flash.merged_is_result m Q K V hQ hK hq hk hv c), (h.1 c).2⟩)
      (Cert.Flash.run_main (F := Ideal) m g)
  · exact (θ_run Cert.ReferenceIdeal.defs _ _).mono (fun _ h => h 0) (Cert.ReferenceIdeal.Value.run (F := Ideal) m' g')

/-- All the claims of the statement hold. -/
theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, fun m g _ => frame_ideal m g trivial, frame_reference, fun m g _ => frame_reference m g trivial, trivial, same_result⟩

end Cert.Proof

end
